-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_pre : Cert.Pre_pre.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_ids_in_range.lean ====
abbrev S4x2048 : Shape := ⟨2, ![4, 2048]⟩
abbrev S100000x128 : Shape := ⟨2, ![100000, 128]⟩
abbrev S2x128 : Shape := ⟨2, ![2, 128]⟩
abbrev S768x128 : Shape := ⟨2, ![768, 128]⟩
abbrev S768 : Shape := ⟨1, ![768]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : IVec S4x2048 32) (main_arg1 : IVec S4x2048 32) (main_arg2 : FVec F S100000x128 .f32) (main_arg3 : FVec F S2x128 .f32) (main_arg4 : FVec F S768x128 .f32) (main_arg5 : FVec F S768 .f32) (main_arg6 : FVec F S768 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 32 := constantI S_ 32 100000#32
  let main_v2 : IVec S4x2048 32 := broadcastInDim S4x2048 ![] bcast_S_S4x2048 main_c_0
  let main_v3 : IVec S4x2048 1 := cmpi .slt main_arg0 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Pre_pre.lean ====
abbrev S4x2048 : Shape := ⟨2, ![4, 2048]⟩
abbrev S100000x128 : Shape := ⟨2, ![100000, 128]⟩
abbrev S2x128 : Shape := ⟨2, ![2, 128]⟩
abbrev S768x128 : Shape := ⟨2, ![768, 128]⟩
abbrev S768 : Shape := ⟨1, ![768]⟩
abbrev S_ : Shape := ⟨0, ![]⟩
abbrev S1x128 : Shape := ⟨2, ![1, 128]⟩
abbrev S128 : Shape := ⟨1, ![128]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  slices_S2x128_S1x128_0_0 : S2x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn_part1 {F : FTy → Type} [FloatOps F] (main_v12 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v12 main_v18
  main_v19

def fn {F : FTy → Type} [FloatOps F] (main_arg0 : IVec S4x2048 32) (main_arg1 : IVec S4x2048 32) (main_arg2 : FVec F S100000x128 .f32) (main_arg3 : FVec F S2x128 .f32) (main_arg4 : FVec F S768x128 .f32) (main_arg5 : FVec F S768 .f32) (main_arg6 : FVec F S768 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 32 := constantI S_ 32 100000#32
  let main_v2 : IVec S4x2048 32 := broadcastInDim S4x2048 ![] bcast_S_S4x2048 main_c_0
  let main_v3 : IVec S4x2048 1 := cmpi .slt main_arg0 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  let main_c_2 : IVec S_ 32 := constantI S_ 32 0#32
  let main_v6 : IVec S4x2048 32 := broadcastInDim S4x2048 ![] bcast_S_S4x2048 main_c_2
  let main_v7 : IVec S4x2048 1 := cmpi .sge main_arg1 main_v6
  let main_c_3 : IVec S_ 32 := constantI S_ 32 2#32
  let main_v8 : IVec S4x2048 32 := broadcastInDim S4x2048 ![] bcast_S_S4x2048 main_c_3
  let main_v9 : IVec S4x2048 1 := cmpi .slt main_arg1 main_v8
  let main_v10 : IVec S4x2048 1 := andi main_v7 main_v9
  let main_c_4 : IVec S_ 1 := constantI S_ 1 1#1
  let main_v11 : IVec S_ 1 := (fun x v => Host.reduce IntOp.andi x v reducesTo_S4x2048_S_d0_1 h_S_) main_v10 main_c_4
  let main_v12 : IVec S_ 1 := andi main_v5 main_v11
  let main_v13 : FVec F S1x128 .f32 := (extractStridedSlice S1x128 ![0, 0] · slices_S2x128_S1x128_0_0) main_arg3
  let main_v14 : FVec F S128 .f32 := shapeCast S128 main_v13 shapeCasts_S1x128_S128
  let main_v15 : FVec F S128 .f32 := Host.absf main_v14
  let main_cst : FVec F S_ .f32 := constant S_ .f32 0x7F800000#32
  let main_v16 : FVec F S128 .f32 := broadcastInDim S128 ![] bcast_S_S128 main_cst
  fn_part1 (F := F) main_v12 main_v15 main_v16
-- ==== Kernel.lean ====
abbrev S4x2048 : Shape := ⟨2, ![4, 2048]⟩
abbrev S100000x128 : Shape := ⟨2, ![100000, 128]⟩
abbrev S2x128 : Shape := ⟨2, ![2, 128]⟩
abbrev S768x128 : Shape := ⟨2, ![768, 128]⟩
abbrev S768 : Shape := ⟨1, ![768]⟩
abbrev S8192x128 : Shape := ⟨2, ![8192, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S8192x768 : Shape := ⟨2, ![8192, 768]⟩
abbrev S4x1024x128 : Shape := ⟨3, ![4, 1024, 128]⟩
abbrev S4x1024x768 : Shape := ⟨3, ![4, 1024, 768]⟩
abbrev S4 : Shape := ⟨1, ![4]⟩
abbrev S1x1024x128 : Shape := ⟨3, ![1, 1024, 128]⟩
abbrev S1024x128 : Shape := ⟨2, ![1024, 128]⟩
abbrev S1x1024 : Shape := ⟨2, ![1, 1024]⟩
abbrev S1024x1 : Shape := ⟨2, ![1024, 1]⟩
abbrev S1024x768 : Shape := ⟨2, ![1024, 768]⟩
abbrev S1x768 : Shape := ⟨2, ![1, 768]⟩
abbrev S1024 : Shape := ⟨1, ![1024]⟩
abbrev S1x1024x768 : Shape := ⟨3, ![1, 1024, 768]⟩
abbrev S4x2048x768 : Shape := ⟨3, ![4, 2048, 768]⟩

abbrev nBuf : Table → Nat
  | .hbm => 10
  | .local .tc .vmem => 7
  | .local .scVector .vmem => 2
  | _ => 0

abbrev bufTy : (tb : Table) → Fin (nBuf tb) → BufTy
  | .hbm, ⟨0, _⟩ => ⟨S4x2048, .i32⟩
  | .hbm, ⟨1, _⟩ => ⟨S4x2048, .i32⟩
  | .hbm, ⟨2, _⟩ => ⟨S100000x128, .f32⟩
  | .hbm, ⟨3, _⟩ => ⟨S2x128, .f32⟩
  | .hbm, ⟨4, _⟩ => ⟨S768x128, .f32⟩
  | .hbm, ⟨5, _⟩ => ⟨S768, .f32⟩
  | .hbm, ⟨6, _⟩ => ⟨S768, .f32⟩
  | .hbm, ⟨7, _⟩ => ⟨S8192x128, .f32⟩
  | .hbm, ⟨8, _⟩ => ⟨S8192x768, .f32⟩
  | .hbm, ⟨9, _⟩ => ⟨S4x2048x768, .f32⟩
  | .local .tc .vmem, ⟨0, _⟩ => ⟨S4x2048, .i32⟩
  | .local .tc .vmem, ⟨1, _⟩ => ⟨S2x128, .f32⟩
  | .local .tc .vmem, ⟨2, _⟩ => ⟨S768x128, .f32⟩
  | .local .tc .vmem, ⟨3, _⟩ => ⟨S768, .f32⟩
  | .local .tc .vmem, ⟨4, _⟩ => ⟨S768, .f32⟩
  | .local .tc .vmem, ⟨5, _⟩ => ⟨S4x1024x128, .f32⟩
  | .local .tc .vmem, ⟨6, _⟩ => ⟨S4x1024x768, .f32⟩
  | .local .scVector .vmem, ⟨0, _⟩ => ⟨S2x1x128, .i32⟩
  | .local .scVector .vmem, ⟨1, _⟩ => ⟨S2x128x128, .f32⟩
  | _, _ => ⟨S4x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_arg2_scv : Ref sig .scVector := ⟨.hbm, 2, rfl⟩
abbrev main_arg0_scv : Ref sig .scVector := ⟨.hbm, 0, rfl⟩
abbrev main_v0_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_scratch0 : Ref sig .tc := ⟨.vmem, 5, rfl⟩
abbrev cc1_scratch1 : Ref sig .tc := ⟨.vmem, 6, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_30_r0 : BitVec 32 := 0#32
  let c0_i32_31_r0 : BitVec 32 := 0#32
  ![v21_r0.toNat, 0, 0]
def k0_off2 (i : grid0.Coords) : Fin 2 → Nat :=
  let c1_i32_29_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let c0_i32_17_r0 : BitVec 32 := 0#32
  let v23_r0 : BitVec 1 := Scalar.cmpi .sgt v7_r0 c0_i32_17_r0
  let v24_r0 : BitVec 32 := Scalar.extui v23_r0
  let c0_i32_18_r0 : BitVec 32 := 0#32
  let v25_r0 : BitVec 1 := Scalar.cmpi .slt v7_r0 c0_i32_18_r0
  let v26_r0 : BitVec 32 := Scalar.extui v25_r0
  let v27_r0 : BitVec 32 := Scalar.subi v24_r0 v26_r0
  let c16_i32_16_r0 : BitVec 32 := 16#32
  let c0_i32_19_r0 : BitVec 32 := 0#32
  let v28_r0 : BitVec 1 := Scalar.cmpi .sgt c16_i32_16_r0 c0_i32_19_r0
  let v29_r0 : BitVec 32 := Scalar.extui v28_r0
  let c0_i32_20_r0 : BitVec 32 := 0#32
  let v30_r0 : BitVec 1 := Scalar.cmpi .slt c16_i32_16_r0 c0_i32_20_r0
  let v31_r0 : BitVec 32 := Scalar.extui v30_r0
  let v32_r0 : BitVec 32 := Scalar.subi v29_r0 v31_r0
  let v33_r0 : BitVec 1 := Scalar.cmpi .ne v27_r0 v32_r0
  let v34_r0 : BitVec 32 := Scalar.remsi v7_r0 c16_i32_16_r0
  let c0_i32_21_r0 : BitVec 32 := 0#32
  let v35_r0 : BitVec 1 := Scalar.cmpi .ne v34_r0 c0_i32_21_r0
  let v36_r0 : BitVec 1 := Scalar.andi v33_r0 v35_r0
  let v22_r0 : BitVec 32 := Scalar.divsi v7_r0 c16_i32_16_r0
  let c1_i32_22_r0 : BitVec 32 := 1#32
  let v37_r0 : BitVec 32 := Scalar.subi v22_r0 c1_i32_22_r0
  let v38_r0 : BitVec 32 := Scalar.select v36_r0 v37_r0 v22_r0
  let v49_r0 : BitVec 32 := Scalar.muli c1_i32_29_r0 v38_r0
  let c128_i32_r0 : BitVec 32 := 128#32
  let c16_i32_23_r0 : BitVec 32 := 16#32
  let c0_i32_24_r0 : BitVec 32 := 0#32
  let v39_r0 : BitVec 1 := Scalar.cmpi .eq c16_i32_23_r0 c0_i32_24_r0
  let c1_i32_25_r0 : BitVec 32 := 1#32
  let v40_r0 : BitVec 32 := Scalar.select v39_r0 c1_i32_25_r0 c16_i32_23_r0
  let v41_r0 : BitVec 32 := Scalar.remsi v7_r0 v40_r0
  let c0_i32_27_r0 : BitVec 32 := 0#32
  let v43_r0 : BitVec 1 := Scalar.cmpi .slt v41_r0 c0_i32_27_r0
  let c0_i32_28_r0 : BitVec 32 := 0#32
  let v44_r0 : BitVec 1 := Scalar.cmpi .slt v40_r0 c0_i32_28_r0
  let v45_r0 : BitVec 1 := Scalar.xori v43_r0 v44_r0
  let c0_i32_26_r0 : BitVec 32 := 0#32
  let v42_r0 : BitVec 1 := Scalar.cmpi .ne v41_r0 c0_i32_26_r0
  let v46_r0 : BitVec 1 := Scalar.andi v45_r0 v42_r0
  let v47_r0 : BitVec 32 := Scalar.addi v41_r0 v40_r0
  let v48_r0 : BitVec 32 := Scalar.select v46_r0 v47_r0 v41_r0
  let v50_r0 : BitVec 32 := Scalar.muli c128_i32_r0 v48_r0
  ![v49_r0.toNat, v50_r0.toNat]
def k0_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k0_t1_loop : Scf.Loop 32 :=
  let c0_i32_40_r0 : BitVec 32 := 0#32
  let c2_i32_41_r0 : BitVec 32 := 2#32
  let v60_r0 : BitVec 32 := Scalar.addi c0_i32_40_r0 c2_i32_41_r0
  let c1_i32_42_r0 : BitVec 32 := 1#32
  ⟨c0_i32_40_r0, v60_r0, c1_i32_42_r0⟩
def k0_off4 (arg6_r0 : BitVec 32) : Fin 3 → Nat :=
  let c2_i32_152_r0 : BitVec 32 := 2#32
  let v263_r0 : BitVec 32 := Scalar.remui arg6_r0 c2_i32_152_r0
  let c0_i32_168_r0 : BitVec 32 := 0#32
  let c0_i32_169_r0 : BitVec 32 := 0#32
  ![v263_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v94_r0 : BitVec 32 := Scalar.addi arg10_r0 v4
  let c0_i32_83_r0 : BitVec 32 := 0#32
  let v111_r0 : BitVec 1 := Scalar.cmpi .sgt v94_r0 c0_i32_83_r0
  let v112_r0 : BitVec 32 := Scalar.extui v111_r0
  let c0_i32_84_r0 : BitVec 32 := 0#32
  let v113_r0 : BitVec 1 := Scalar.cmpi .slt v94_r0 c0_i32_84_r0
  let v114_r0 : BitVec 32 := Scalar.extui v113_r0
  let v115_r0 : BitVec 32 := Scalar.subi v112_r0 v114_r0
  let c16_i32_82_r0 : BitVec 32 := 16#32
  let c0_i32_85_r0 : BitVec 32 := 0#32
  let v116_r0 : BitVec 1 := Scalar.cmpi .sgt c16_i32_82_r0 c0_i32_85_r0
  let v117_r0 : BitVec 32 := Scalar.extui v116_r0
  let c0_i32_86_r0 : BitVec 32 := 0#32
  let v118_r0 : BitVec 1 := Scalar.cmpi .slt c16_i32_82_r0 c0_i32_86_r0
  let v119_r0 : BitVec 32 := Scalar.extui v118_r0
  let v120_r0 : BitVec 32 := Scalar.subi v117_r0 v119_r0
  let v121_r0 : BitVec 1 := Scalar.cmpi .ne v115_r0 v120_r0
  let v122_r0 : BitVec 32 := Scalar.remsi v94_r0 c16_i32_82_r0
  let c0_i32_87_r0 : BitVec 32 := 0#32
  let v123_r0 : BitVec 1 := Scalar.cmpi .ne v122_r0 c0_i32_87_r0
  let v124_r0 : BitVec 1 := Scalar.andi v121_r0 v123_r0
  let v110_r0 : BitVec 32 := Scalar.divsi v94_r0 c16_i32_82_r0
  let c1_i32_88_r0 : BitVec 32 := 1#32
  let v125_r0 : BitVec 32 := Scalar.subi v110_r0 c1_i32_88_r0
  let v126_r0 : BitVec 32 := Scalar.select v124_r0 v125_r0 v110_r0
  let true_75_r0 : BitVec 1 := 1#1
  let c1_i32_74_r0 : BitVec 32 := 1#32
  let v100_r0 : BitVec 32 := Scalar.addi arg10_r0 c1_i32_74_r0
  let v101_r0 : BitVec 32 := Scalar.select true_75_r0 v100_r0 arg10_r0
  let c2_i32_76_r0 : BitVec 32 := 2#32
  let v102_r0 : BitVec 1 := Scalar.cmpi .eq v101_r0 c2_i32_76_r0
  let c0_i32_77_r0 : BitVec 32 := 0#32
  let v103_r0 : BitVec 32 := Scalar.select v102_r0 c0_i32_77_r0 v101_r0
  let v104_r0 : BitVec 32 := Scalar.addi v103_r0 v4
  let c0_i32_96_r0 : BitVec 32 := 0#32
  let v138_r0 : BitVec 1 := Scalar.cmpi .sgt v104_r0 c0_i32_96_r0
  let v139_r0 : BitVec 32 := Scalar.extui v138_r0
  let c0_i32_97_r0 : BitVec 32 := 0#32
  let v140_r0 : BitVec 1 := Scalar.cmpi .slt v104_r0 c0_i32_97_r0
  let v141_r0 : BitVec 32 := Scalar.extui v140_r0
  let v142_r0 : BitVec 32 := Scalar.subi v139_r0 v141_r0
  let c16_i32_95_r0 : BitVec 32 := 16#32
  let c0_i32_98_r0 : BitVec 32 := 0#32
  let v143_r0 : BitVec 1 := Scalar.cmpi .sgt c16_i32_95_r0 c0_i32_98_r0
  let v144_r0 : BitVec 32 := Scalar.extui v143_r0
  let c0_i32_99_r0 : BitVec 32 := 0#32
  let v145_r0 : BitVec 1 := Scalar.cmpi .slt c16_i32_95_r0 c0_i32_99_r0
  let v146_r0 : BitVec 32 := Scalar.extui v145_r0
  let v147_r0 : BitVec 32 := Scalar.subi v144_r0 v146_r0
  let v148_r0 : BitVec 1 := Scalar.cmpi .ne v142_r0 v147_r0
  let v149_r0 : BitVec 32 := Scalar.remsi v104_r0 c16_i32_95_r0
  let c0_i32_100_r0 : BitVec 32 := 0#32
  let v150_r0 : BitVec 1 := Scalar.cmpi .ne v149_r0 c0_i32_100_r0
  let v151_r0 : BitVec 1 := Scalar.andi v148_r0 v150_r0
  let v137_r0 : BitVec 32 := Scalar.divsi v104_r0 c16_i32_95_r0
  let c1_i32_101_r0 : BitVec 32 := 1#32
  let v152_r0 : BitVec 32 := Scalar.subi v137_r0 c1_i32_101_r0
  let v153_r0 : BitVec 32 := Scalar.select v151_r0 v152_r0 v137_r0
  let v164_r0 : BitVec 1 := Scalar.cmpi .ne v126_r0 v153_r0
  let c16_i32_89_r0 : BitVec 32 := 16#32
  let c0_i32_90_r0 : BitVec 32 := 0#32
  let v127_r0 : BitVec 1 := Scalar.cmpi .eq c16_i32_89_r0 c0_i32_90_r0
  let c1_i32_91_r0 : BitVec 32 := 1#32
  let v128_r0 : BitVec 32 := Scalar.select v127_r0 c1_i32_91_r0 c16_i32_89_r0
  let v129_r0 : BitVec 32 := Scalar.remsi v94_r0 v128_r0
  let c0_i32_93_r0 : BitVec 32 := 0#32
  let v131_r0 : BitVec 1 := Scalar.cmpi .slt v129_r0 c0_i32_93_r0
  let c0_i32_94_r0 : BitVec 32 := 0#32
  let v132_r0 : BitVec 1 := Scalar.cmpi .slt v128_r0 c0_i32_94_r0
  let v133_r0 : BitVec 1 := Scalar.xori v131_r0 v132_r0
  let c0_i32_92_r0 : BitVec 32 := 0#32
  let v130_r0 : BitVec 1 := Scalar.cmpi .ne v129_r0 c0_i32_92_r0
  let v134_r0 : BitVec 1 := Scalar.andi v133_r0 v130_r0
  let v135_r0 : BitVec 32 := Scalar.addi v129_r0 v128_r0
  let v136_r0 : BitVec 32 := Scalar.select v134_r0 v135_r0 v129_r0
  let c16_i32_102_r0 : BitVec 32 := 16#32
  let c0_i32_103_r0 : BitVec 32 := 0#32
  let v154_r0 : BitVec 1 := Scalar.cmpi .eq c16_i32_102_r0 c0_i32_103_r0
  let c1_i32_104_r0 : BitVec 32 := 1#32
  let v155_r0 : BitVec 32 := Scalar.select v154_r0 c1_i32_104_r0 c16_i32_102_r0
  let v156_r0 : BitVec 32 := Scalar.remsi v104_r0 v155_r0
  let c0_i32_106_r0 : BitVec 32 := 0#32
  let v158_r0 : BitVec 1 := Scalar.cmpi .slt v156_r0 c0_i32_106_r0
  let c0_i32_107_r0 : BitVec 32 := 0#32
  let v159_r0 : BitVec 1 := Scalar.cmpi .slt v155_r0 c0_i32_107_r0
  let v160_r0 : BitVec 1 := Scalar.xori v158_r0 v159_r0
  let c0_i32_105_r0 : BitVec 32 := 0#32
  let v157_r0 : BitVec 1 := Scalar.cmpi .ne v156_r0 c0_i32_105_r0
  let v161_r0 : BitVec 1 := Scalar.andi v160_r0 v157_r0
  let v162_r0 : BitVec 32 := Scalar.addi v156_r0 v155_r0
  let v163_r0 : BitVec 32 := Scalar.select v161_r0 v162_r0 v156_r0
  let v165_r0 : BitVec 1 := Scalar.cmpi .ne v136_r0 v163_r0
  let v166_r0 : BitVec 1 := Scalar.ori v164_r0 v165_r0
  let c0_i32_40_r0 : BitVec 32 := 0#32
  let c1_i32_42_r0 : BitVec 32 := 1#32
  let arg5_r0 : BitVec 32 := Scf.iv c0_i32_40_r0 c1_i32_42_r0 k0_t1
  let c1_i32_108_r0 : BitVec 32 := 1#32
  let v167_r0 : BitVec 1 := Scalar.cmpi .sge arg5_r0 c1_i32_108_r0
  let true_109_r0 : BitVec 1 := 1#1
  let v168_r0 : BitVec 1 := Scalar.xori v167_r0 true_109_r0
  let v169_r0 : BitVec 1 := Scalar.andi v166_r0 v168_r0
  let true_110_r0 : BitVec 1 := 1#1
  let v170_r0 : BitVec 1 := Scalar.andi v169_r0 true_110_r0
  let v171_r0 : BitVec 32 := Scalar.extui v170_r0
  let c0_i32_111_r0 : BitVec 32 := 0#32
  let v172_r0 : BitVec 1 := Scalar.cmpi .ne v171_r0 c0_i32_111_r0
  v172_r0

def k0_off5 (i : grid0.Coords) (arg10_r0 : BitVec 32) : Fin 2 → Nat :=
  let c1_i32_166_r0 : BitVec 32 := 1#32
  let true_75_r0 : BitVec 1 := 1#1
  let c1_i32_74_r0 : BitVec 32 := 1#32
  let v100_r0 : BitVec 32 := Scalar.addi arg10_r0 c1_i32_74_r0
  let v101_r0 : BitVec 32 := Scalar.select true_75_r0 v100_r0 arg10_r0
  let c2_i32_76_r0 : BitVec 32 := 2#32
  let v102_r0 : BitVec 1 := Scalar.cmpi .eq v101_r0 c2_i32_76_r0
  let c0_i32_77_r0 : BitVec 32 := 0#32
  let v103_r0 : BitVec 32 := Scalar.select v102_r0 c0_i32_77_r0 v101_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v104_r0 : BitVec 32 := Scalar.addi v103_r0 v4
  let c0_i32_154_r0 : BitVec 32 := 0#32
  let v265_r0 : BitVec 1 := Scalar.cmpi .sgt v104_r0 c0_i32_154_r0
  let v266_r0 : BitVec 32 := Scalar.extui v265_r0
  let c0_i32_155_r0 : BitVec 32 := 0#32
  let v267_r0 : BitVec 1 := Scalar.cmpi .slt v104_r0 c0_i32_155_r0
  let v268_r0 : BitVec 32 := Scalar.extui v267_r0
  let v269_r0 : BitVec 32 := Scalar.subi v266_r0 v268_r0
  let c16_i32_153_r0 : BitVec 32 := 16#32
  let c0_i32_156_r0 : BitVec 32 := 0#32
  let v270_r0 : BitVec 1 := Scalar.cmpi .sgt c16_i32_153_r0 c0_i32_156_r0
  let v271_r0 : BitVec 32 := Scalar.extui v270_r0
  let c0_i32_157_r0 : BitVec 32 := 0#32
  let v272_r0 : BitVec 1 := Scalar.cmpi .slt c16_i32_153_r0 c0_i32_157_r0
  let v273_r0 : BitVec 32 := Scalar.extui v272_r0
  let v274_r0 : BitVec 32 := Scalar.subi v271_r0 v273_r0
  let v275_r0 : BitVec 1 := Scalar.cmpi .ne v269_r0 v274_r0
  let v276_r0 : BitVec 32 := Scalar.remsi v104_r0 c16_i32_153_r0
  let c0_i32_158_r0 : BitVec 32 := 0#32
  let v277_r0 : BitVec 1 := Scalar.cmpi .ne v276_r0 c0_i32_158_r0
  let v278_r0 : BitVec 1 := Scalar.andi v275_r0 v277_r0
  let v264_r0 : BitVec 32 := Scalar.divsi v104_r0 c16_i32_153_r0
  let c1_i32_159_r0 : BitVec 32 := 1#32
  let v279_r0 : BitVec 32 := Scalar.subi v264_r0 c1_i32_159_r0
  let v280_r0 : BitVec 32 := Scalar.select v278_r0 v279_r0 v264_r0
  let v291_r0 : BitVec 32 := Scalar.muli c1_i32_166_r0 v280_r0
  let c128_i32_167_r0 : BitVec 32 := 128#32
  let c16_i32_160_r0 : BitVec 32 := 16#32
  let c0_i32_161_r0 : BitVec 32 := 0#32
  let v281_r0 : BitVec 1 := Scalar.cmpi .eq c16_i32_160_r0 c0_i32_161_r0
  let c1_i32_162_r0 : BitVec 32 := 1#32
  let v282_r0 : BitVec 32 := Scalar.select v281_r0 c1_i32_162_r0 c16_i32_160_r0
  let v283_r0 : BitVec 32 := Scalar.remsi v104_r0 v282_r0
  let c0_i32_164_r0 : BitVec 32 := 0#32
  let v285_r0 : BitVec 1 := Scalar.cmpi .slt v283_r0 c0_i32_164_r0
  let c0_i32_165_r0 : BitVec 32 := 0#32
  let v286_r0 : BitVec 1 := Scalar.cmpi .slt v282_r0 c0_i32_165_r0
  let v287_r0 : BitVec 1 := Scalar.xori v285_r0 v286_r0
  let c0_i32_163_r0 : BitVec 32 := 0#32
  let v284_r0 : BitVec 1 := Scalar.cmpi .ne v283_r0 c0_i32_163_r0
  let v288_r0 : BitVec 1 := Scalar.andi v287_r0 v284_r0
  let v289_r0 : BitVec 32 := Scalar.addi v283_r0 v282_r0
  let v290_r0 : BitVec 32 := Scalar.select v288_r0 v289_r0 v283_r0
  let v292_r0 : BitVec 32 := Scalar.muli c128_i32_167_r0 v290_r0
  ![v291_r0.toNat, v292_r0.toNat]
def k0_off6 (arg6_r0 : BitVec 32) : Fin 1 → Nat :=
  let c2_i32_152_r0 : BitVec 32 := 2#32
  let v263_r0 : BitVec 32 := Scalar.remui arg6_r0 c2_i32_152_r0
  ![v263_r0.toNat]
def k0_off7 (arg7_r0 : BitVec 32) : Fin 3 → Nat :=
  let c2_i32_167_r0 : BitVec 32 := 2#32
  let v292_r0 : BitVec 32 := Scalar.remui arg7_r0 c2_i32_167_r0
  let c0_i32_168_r0 : BitVec 32 := 0#32
  let c0_i32_169_r0 : BitVec 32 := 0#32
  ![v292_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v94_r0 : BitVec 32 := Scalar.addi arg10_r0 v4
  let c0_i32_83_r0 : BitVec 32 := 0#32
  let v111_r0 : BitVec 1 := Scalar.cmpi .sgt v94_r0 c0_i32_83_r0
  let v112_r0 : BitVec 32 := Scalar.extui v111_r0
  let c0_i32_84_r0 : BitVec 32 := 0#32
  let v113_r0 : BitVec 1 := Scalar.cmpi .slt v94_r0 c0_i32_84_r0
  let v114_r0 : BitVec 32 := Scalar.extui v113_r0
  let v115_r0 : BitVec 32 := Scalar.subi v112_r0 v114_r0
  let c16_i32_82_r0 : BitVec 32 := 16#32
  let c0_i32_85_r0 : BitVec 32 := 0#32
  let v116_r0 : BitVec 1 := Scalar.cmpi .sgt c16_i32_82_r0 c0_i32_85_r0
  let v117_r0 : BitVec 32 := Scalar.extui v116_r0
  let c0_i32_86_r0 : BitVec 32 := 0#32
  let v118_r0 : BitVec 1 := Scalar.cmpi .slt c16_i32_82_r0 c0_i32_86_r0
  let v119_r0 : BitVec 32 := Scalar.extui v118_r0
  let v120_r0 : BitVec 32 := Scalar.subi v117_r0 v119_r0
  let v121_r0 : BitVec 1 := Scalar.cmpi .ne v115_r0 v120_r0
  let v122_r0 : BitVec 32 := Scalar.remsi v94_r0 c16_i32_82_r0
  let c0_i32_87_r0 : BitVec 32 := 0#32
  let v123_r0 : BitVec 1 := Scalar.cmpi .ne v122_r0 c0_i32_87_r0
  let v124_r0 : BitVec 1 := Scalar.andi v121_r0 v123_r0
  let v110_r0 : BitVec 32 := Scalar.divsi v94_r0 c16_i32_82_r0
  let c1_i32_88_r0 : BitVec 32 := 1#32
  let v125_r0 : BitVec 32 := Scalar.subi v110_r0 c1_i32_88_r0
  let v126_r0 : BitVec 32 := Scalar.select v124_r0 v125_r0 v110_r0
  let true_71_r0 : BitVec 1 := 1#1
  let c1_i32_70_r0 : BitVec 32 := 1#32
  let v95_r0 : BitVec 32 := Scalar.subi arg10_r0 c1_i32_70_r0
  let v96_r0 : BitVec 32 := Scalar.select true_71_r0 v95_r0 arg10_r0
  let c_m1_i32_72_r0 : BitVec 32 := 4294967295#32
  let v97_r0 : BitVec 1 := Scalar.cmpi .eq v96_r0 c_m1_i32_72_r0
  let c1_i32_73_r0 : BitVec 32 := 1#32
  let v98_r0 : BitVec 32 := Scalar.select v97_r0 c1_i32_73_r0 v96_r0
  let v99_r0 : BitVec 32 := Scalar.addi v98_r0 v4
  let c0_i32_117_r0 : BitVec 32 := 0#32
  let v181_r0 : BitVec 1 := Scalar.cmpi .sgt v99_r0 c0_i32_117_r0
  let v182_r0 : BitVec 32 := Scalar.extui v181_r0
  let c0_i32_118_r0 : BitVec 32 := 0#32
  let v183_r0 : BitVec 1 := Scalar.cmpi .slt v99_r0 c0_i32_118_r0
  let v184_r0 : BitVec 32 := Scalar.extui v183_r0
  let v185_r0 : BitVec 32 := Scalar.subi v182_r0 v184_r0
  let c16_i32_116_r0 : BitVec 32 := 16#32
  let c0_i32_119_r0 : BitVec 32 := 0#32
  let v186_r0 : BitVec 1 := Scalar.cmpi .sgt c16_i32_116_r0 c0_i32_119_r0
  let v187_r0 : BitVec 32 := Scalar.extui v186_r0
  let c0_i32_120_r0 : BitVec 32 := 0#32
  let v188_r0 : BitVec 1 := Scalar.cmpi .slt c16_i32_116_r0 c0_i32_120_r0
  let v189_r0 : BitVec 32 := Scalar.extui v188_r0
  let v190_r0 : BitVec 32 := Scalar.subi v187_r0 v189_r0
  let v191_r0 : BitVec 1 := Scalar.cmpi .ne v185_r0 v190_r0
  let v192_r0 : BitVec 32 := Scalar.remsi v99_r0 c16_i32_116_r0
  let c0_i32_121_r0 : BitVec 32 := 0#32
  let v193_r0 : BitVec 1 := Scalar.cmpi .ne v192_r0 c0_i32_121_r0
  let v194_r0 : BitVec 1 := Scalar.andi v191_r0 v193_r0
  let v180_r0 : BitVec 32 := Scalar.divsi v99_r0 c16_i32_116_r0
  let c1_i32_122_r0 : BitVec 32 := 1#32
  let v195_r0 : BitVec 32 := Scalar.subi v180_r0 c1_i32_122_r0
  let v196_r0 : BitVec 32 := Scalar.select v194_r0 v195_r0 v180_r0
  let v207_r0 : BitVec 1 := Scalar.cmpi .ne v126_r0 v196_r0
  let c16_i32_89_r0 : BitVec 32 := 16#32
  let c0_i32_90_r0 : BitVec 32 := 0#32
  let v127_r0 : BitVec 1 := Scalar.cmpi .eq c16_i32_89_r0 c0_i32_90_r0
  let c1_i32_91_r0 : BitVec 32 := 1#32
  let v128_r0 : BitVec 32 := Scalar.select v127_r0 c1_i32_91_r0 c16_i32_89_r0
  let v129_r0 : BitVec 32 := Scalar.remsi v94_r0 v128_r0
  let c0_i32_93_r0 : BitVec 32 := 0#32
  let v131_r0 : BitVec 1 := Scalar.cmpi .slt v129_r0 c0_i32_93_r0
  let c0_i32_94_r0 : BitVec 32 := 0#32
  let v132_r0 : BitVec 1 := Scalar.cmpi .slt v128_r0 c0_i32_94_r0
  let v133_r0 : BitVec 1 := Scalar.xori v131_r0 v132_r0
  let c0_i32_92_r0 : BitVec 32 := 0#32
  let v130_r0 : BitVec 1 := Scalar.cmpi .ne v129_r0 c0_i32_92_r0
  let v134_r0 : BitVec 1 := Scalar.andi v133_r0 v130_r0
  let v135_r0 : BitVec 32 := Scalar.addi v129_r0 v128_r0
  let v136_r0 : BitVec 32 := Scalar.select v134_r0 v135_r0 v129_r0
  let c16_i32_123_r0 : BitVec 32 := 16#32
  let c0_i32_124_r0 : BitVec 32 := 0#32
  let v197_r0 : BitVec 1 := Scalar.cmpi .eq c16_i32_123_r0 c0_i32_124_r0
  let c1_i32_125_r0 : BitVec 32 := 1#32
  let v198_r0 : BitVec 32 := Scalar.select v197_r0 c1_i32_125_r0 c16_i32_123_r0
  let v199_r0 : BitVec 32 := Scalar.remsi v99_r0 v198_r0
  let c0_i32_127_r0 : BitVec 32 := 0#32
  let v201_r0 : BitVec 1 := Scalar.cmpi .slt v199_r0 c0_i32_127_r0
  let c0_i32_128_r0 : BitVec 32 := 0#32
  let v202_r0 : BitVec 1 := Scalar.cmpi .slt v198_r0 c0_i32_128_r0
  let v203_r0 : BitVec 1 := Scalar.xori v201_r0 v202_r0
  let c0_i32_126_r0 : BitVec 32 := 0#32
  let v200_r0 : BitVec 1 := Scalar.cmpi .ne v199_r0 c0_i32_126_r0
  let v204_r0 : BitVec 1 := Scalar.andi v203_r0 v200_r0
  let v205_r0 : BitVec 32 := Scalar.addi v199_r0 v198_r0
  let v206_r0 : BitVec 32 := Scalar.select v204_r0 v205_r0 v199_r0
  let v208_r0 : BitVec 1 := Scalar.cmpi .ne v136_r0 v206_r0
  let v209_r0 : BitVec 1 := Scalar.ori v207_r0 v208_r0
  let c0_i32_40_r0 : BitVec 32 := 0#32
  let c1_i32_42_r0 : BitVec 32 := 1#32
  let arg5_r0 : BitVec 32 := Scf.iv c0_i32_40_r0 c1_i32_42_r0 k0_t1
  let c0_i32_68_r0 : BitVec 32 := 0#32
  let v92_r0 : BitVec 1 := Scalar.cmpi .eq arg5_r0 c0_i32_68_r0
  let v210_r0 : BitVec 1 := Scalar.ori v209_r0 v92_r0
  let c0_i32_129_r0 : BitVec 32 := 0#32
  let v211_r0 : BitVec 1 := Scalar.cmpi .sge arg5_r0 c0_i32_129_r0
  let v212_r0 : BitVec 1 := Scalar.andi v210_r0 v211_r0
  let v213_r0 : BitVec 32 := Scalar.extui v212_r0
  let c0_i32_130_r0 : BitVec 32 := 0#32
  let v214_r0 : BitVec 1 := Scalar.cmpi .ne v213_r0 c0_i32_130_r0
  v214_r0

def k0_off8 (i : grid0.Coords) (arg10_r0 : BitVec 32) : Fin 2 → Nat :=
  let c1_i32_165_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v94_r0 : BitVec 32 := Scalar.addi arg10_r0 v4
  let c0_i32_153_r0 : BitVec 32 := 0#32
  let v264_r0 : BitVec 1 := Scalar.cmpi .sgt v94_r0 c0_i32_153_r0
  let v265_r0 : BitVec 32 := Scalar.extui v264_r0
  let c0_i32_154_r0 : BitVec 32 := 0#32
  let v266_r0 : BitVec 1 := Scalar.cmpi .slt v94_r0 c0_i32_154_r0
  let v267_r0 : BitVec 32 := Scalar.extui v266_r0
  let v268_r0 : BitVec 32 := Scalar.subi v265_r0 v267_r0
  let c16_i32_152_r0 : BitVec 32 := 16#32
  let c0_i32_155_r0 : BitVec 32 := 0#32
  let v269_r0 : BitVec 1 := Scalar.cmpi .sgt c16_i32_152_r0 c0_i32_155_r0
  let v270_r0 : BitVec 32 := Scalar.extui v269_r0
  let c0_i32_156_r0 : BitVec 32 := 0#32
  let v271_r0 : BitVec 1 := Scalar.cmpi .slt c16_i32_152_r0 c0_i32_156_r0
  let v272_r0 : BitVec 32 := Scalar.extui v271_r0
  let v273_r0 : BitVec 32 := Scalar.subi v270_r0 v272_r0
  let v274_r0 : BitVec 1 := Scalar.cmpi .ne v268_r0 v273_r0
  let v275_r0 : BitVec 32 := Scalar.remsi v94_r0 c16_i32_152_r0
  let c0_i32_157_r0 : BitVec 32 := 0#32
  let v276_r0 : BitVec 1 := Scalar.cmpi .ne v275_r0 c0_i32_157_r0
  let v277_r0 : BitVec 1 := Scalar.andi v274_r0 v276_r0
  let v263_r0 : BitVec 32 := Scalar.divsi v94_r0 c16_i32_152_r0
  let c1_i32_158_r0 : BitVec 32 := 1#32
  let v278_r0 : BitVec 32 := Scalar.subi v263_r0 c1_i32_158_r0
  let v279_r0 : BitVec 32 := Scalar.select v277_r0 v278_r0 v263_r0
  let v290_r0 : BitVec 32 := Scalar.muli c1_i32_165_r0 v279_r0
  let c128_i32_166_r0 : BitVec 32 := 128#32
  let c16_i32_159_r0 : BitVec 32 := 16#32
  let c0_i32_160_r0 : BitVec 32 := 0#32
  let v280_r0 : BitVec 1 := Scalar.cmpi .eq c16_i32_159_r0 c0_i32_160_r0
  let c1_i32_161_r0 : BitVec 32 := 1#32
  let v281_r0 : BitVec 32 := Scalar.select v280_r0 c1_i32_161_r0 c16_i32_159_r0
  let v282_r0 : BitVec 32 := Scalar.remsi v94_r0 v281_r0
  let c0_i32_163_r0 : BitVec 32 := 0#32
  let v284_r0 : BitVec 1 := Scalar.cmpi .slt v282_r0 c0_i32_163_r0
  let c0_i32_164_r0 : BitVec 32 := 0#32
  let v285_r0 : BitVec 1 := Scalar.cmpi .slt v281_r0 c0_i32_164_r0
  let v286_r0 : BitVec 1 := Scalar.xori v284_r0 v285_r0
  let c0_i32_162_r0 : BitVec 32 := 0#32
  let v283_r0 : BitVec 1 := Scalar.cmpi .ne v282_r0 c0_i32_162_r0
  let v287_r0 : BitVec 1 := Scalar.andi v286_r0 v283_r0
  let v288_r0 : BitVec 32 := Scalar.addi v282_r0 v281_r0
  let v289_r0 : BitVec 32 := Scalar.select v287_r0 v288_r0 v282_r0
  let v291_r0 : BitVec 32 := Scalar.muli c128_i32_166_r0 v289_r0
  ![v290_r0.toNat, v291_r0.toNat]
def k0_off9 (arg7_r0 : BitVec 32) : Fin 1 → Nat :=
  let c2_i32_167_r0 : BitVec 32 := 2#32
  let v292_r0 : BitVec 32 := Scalar.remui arg7_r0 c2_i32_167_r0
  ![v292_r0.toNat]
def k0_off10 (arg8_r0 : BitVec 32) : Fin 3 → Nat :=
  let c2_i32_134_r0 : BitVec 32 := 2#32
  let v222_r0 : BitVec 32 := Scalar.remui arg8_r0 c2_i32_134_r0
  let c0_i32_152_r1 : BitVec 32 := 0#32
  let c0_i32_153_r1 : BitVec 32 := 0#32
  ![v222_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_133_r0 : BitVec 32 := 2#32
  let v221_r0 : BitVec 32 := Scalar.remui arg7_r0 c2_i32_133_r0
  let c0_i32_154_r1 : BitVec 32 := 0#32
  let c0_i32_155_r1 : BitVec 32 := 0#32
  ![v221_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_152_r0 : BitVec 32 := 2#32
  let v263_r0 : BitVec 32 := Scalar.remui arg8_r0 c2_i32_152_r0
  let c0_i32_154_r0 : BitVec 32 := 0#32
  let c0_i32_155_r0 : BitVec 32 := 0#32
  ![v263_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v94_r0 : BitVec 32 := Scalar.addi arg10_r0 v4
  let true_75_r0 : BitVec 1 := 1#1
  let c1_i32_74_r0 : BitVec 32 := 1#32
  let v100_r0 : BitVec 32 := Scalar.addi arg10_r0 c1_i32_74_r0
  let v101_r0 : BitVec 32 := Scalar.select true_75_r0 v100_r0 arg10_r0
  let c2_i32_76_r0 : BitVec 32 := 2#32
  let v102_r0 : BitVec 1 := Scalar.cmpi .eq v101_r0 c2_i32_76_r0
  let c0_i32_77_r0 : BitVec 32 := 0#32
  let v103_r0 : BitVec 32 := Scalar.select v102_r0 c0_i32_77_r0 v101_r0
  let v104_r0 : BitVec 32 := Scalar.addi v103_r0 v4
  let v230_r0 : BitVec 1 := Scalar.cmpi .ne v94_r0 v104_r0
  let c0_i32_40_r0 : BitVec 32 := 0#32
  let c1_i32_42_r0 : BitVec 32 := 1#32
  let arg5_r0 : BitVec 32 := Scf.iv c0_i32_40_r0 c1_i32_42_r0 k0_t1
  let c1_i32_69_r0 : BitVec 32 := 1#32
  let v93_r0 : BitVec 1 := Scalar.cmpi .eq arg5_r0 c1_i32_69_r0
  let v231_r0 : BitVec 1 := Scalar.ori v230_r0 v93_r0
  let v232_r0 : BitVec 32 := Scalar.extui v231_r0
  let c0_i32_137_r0 : BitVec 32 := 0#32
  let v233_r0 : BitVec 1 := Scalar.cmpi .ne v232_r0 c0_i32_137_r0
  v233_r0

def k0_off13 (i : grid0.Coords) (arg10_r0 : BitVec 32) : Fin 2 → Nat :=
  let c128_i32_153_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v94_r0 : BitVec 32 := Scalar.addi arg10_r0 v4
  let v264_r0 : BitVec 32 := Scalar.muli c128_i32_153_r0 v94_r0
  let c0_i32_156_r0 : BitVec 32 := 0#32
  ![v264_r0.toNat, 0]
def k0_off14 (arg8_r0 : BitVec 32) : Fin 1 → Nat :=
  let c2_i32_152_r0 : BitVec 32 := 2#32
  let v263_r0 : BitVec 32 := Scalar.remui arg8_r0 c2_i32_152_r0
  ![v263_r0.toNat]
def k0_off15 (arg9_r0 : BitVec 32) : Fin 3 → Nat :=
  let c2_i32_152_r0 : BitVec 32 := 2#32
  let v263_r0 : BitVec 32 := Scalar.remui arg9_r0 c2_i32_152_r0
  let c0_i32_154_r0 : BitVec 32 := 0#32
  let c0_i32_155_r0 : BitVec 32 := 0#32
  ![v263_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v94_r0 : BitVec 32 := Scalar.addi arg10_r0 v4
  let true_71_r0 : BitVec 1 := 1#1
  let c1_i32_70_r0 : BitVec 32 := 1#32
  let v95_r0 : BitVec 32 := Scalar.subi arg10_r0 c1_i32_70_r0
  let v96_r0 : BitVec 32 := Scalar.select true_71_r0 v95_r0 arg10_r0
  let c_m1_i32_72_r0 : BitVec 32 := 4294967295#32
  let v97_r0 : BitVec 1 := Scalar.cmpi .eq v96_r0 c_m1_i32_72_r0
  let c1_i32_73_r0 : BitVec 32 := 1#32
  let v98_r0 : BitVec 32 := Scalar.select v97_r0 c1_i32_73_r0 v96_r0
  let v99_r0 : BitVec 32 := Scalar.addi v98_r0 v4
  let v245_r0 : BitVec 1 := Scalar.cmpi .ne v94_r0 v99_r0
  let c0_i32_40_r0 : BitVec 32 := 0#32
  let c1_i32_42_r0 : BitVec 32 := 1#32
  let arg5_r0 : BitVec 32 := Scf.iv c0_i32_40_r0 c1_i32_42_r0 k0_t1
  let c0_i32_68_r0 : BitVec 32 := 0#32
  let v92_r0 : BitVec 1 := Scalar.cmpi .eq arg5_r0 c0_i32_68_r0
  let true_143_r0 : BitVec 1 := 1#1
  let v246_r0 : BitVec 1 := Scalar.xori v92_r0 true_143_r0
  let v247_r0 : BitVec 1 := Scalar.andi v245_r0 v246_r0
  let v248_r0 : BitVec 32 := Scalar.extui v247_r0
  let c0_i32_144_r0 : BitVec 32 := 0#32
  let v249_r0 : BitVec 1 := Scalar.cmpi .ne v248_r0 c0_i32_144_r0
  v249_r0

def k0_off16 (i : grid0.Coords) (arg10_r0 : BitVec 32) : Fin 2 → Nat :=
  let c128_i32_153_r0 : BitVec 32 := 128#32
  let true_71_r0 : BitVec 1 := 1#1
  let c1_i32_70_r0 : BitVec 32 := 1#32
  let v95_r0 : BitVec 32 := Scalar.subi arg10_r0 c1_i32_70_r0
  let v96_r0 : BitVec 32 := Scalar.select true_71_r0 v95_r0 arg10_r0
  let c_m1_i32_72_r0 : BitVec 32 := 4294967295#32
  let v97_r0 : BitVec 1 := Scalar.cmpi .eq v96_r0 c_m1_i32_72_r0
  let c1_i32_73_r0 : BitVec 32 := 1#32
  let v98_r0 : BitVec 32 := Scalar.select v97_r0 c1_i32_73_r0 v96_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v99_r0 : BitVec 32 := Scalar.addi v98_r0 v4
  let v264_r0 : BitVec 32 := Scalar.muli c128_i32_153_r0 v99_r0
  let c0_i32_156_r0 : BitVec 32 := 0#32
  ![v264_r0.toNat, 0]
def k0_off17 (arg9_r0 : BitVec 32) : Fin 1 → Nat :=
  let c2_i32_152_r0 : BitVec 32 := 2#32
  let v263_r0 : BitVec 32 := Scalar.remui arg9_r0 c2_i32_152_r0
  ![v263_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S4x2048.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S4x2048.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S8192x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S8192x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S4x2048.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S4x2048.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S8192x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S8192x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v61_3_r0 : BitVec 32) : Fin 3 → Nat :=
  let c2_i32_60_r0 : BitVec 32 := 2#32
  let v82_r0 : BitVec 32 := Scalar.remui v61_3_r0 c2_i32_60_r0
  let c0_i32_62_r0 : BitVec 32 := 0#32
  let c0_i32_63_r0 : BitVec 32 := 0#32
  ![v82_r0.toNat, 0, 0]

def k0_off19 (i : grid0.Coords) (v61_4_r0 : BitVec 32) : Fin 2 → Nat :=
  let c128_i32_61_r0 : BitVec 32 := 128#32
  let true_45_r0 : BitVec 1 := 1#1
  let c1_i32_44_r0 : BitVec 32 := 1#32
  let v62_r0 : BitVec 32 := Scalar.subi v61_4_r0 c1_i32_44_r0
  let v63_r0 : BitVec 32 := Scalar.select true_45_r0 v62_r0 v61_4_r0
  let c_m1_i32_46_r0 : BitVec 32 := 4294967295#32
  let v64_r0 : BitVec 1 := Scalar.cmpi .eq v63_r0 c_m1_i32_46_r0
  let c1_i32_47_r0 : BitVec 32 := 1#32
  let v65_r0 : BitVec 32 := Scalar.select v64_r0 c1_i32_47_r0 v63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi v65_r0 v4
  let v83_r0 : BitVec 32 := Scalar.muli c128_i32_61_r0 v66_r0
  let c0_i32_64_r0 : BitVec 32 := 0#32
  ![v83_r0.toNat, 0]

def k0_chk5 (i : grid0.Coords) (v61_4_r0 : BitVec 32) : Prop :=
  (∀ a, (k0_off19 i v61_4_r0) a + S128x128.size a ≤ S8192x128.size a)
theorem k0_off19_inb : ∀ (i : grid0.Coords) (v61_4_r0 : BitVec 32) (k0_hw5 : k0_chk5 i v61_4_r0), ∀ a, (k0_off19 i v61_4_r0) a + S128x128.size a ≤ S8192x128.size a := fun i v61_4_r0 k0_hw5 => k0_hw5

def k0_off20 (v61_3_r0 : BitVec 32) : Fin 1 → Nat :=
  let c2_i32_60_r0 : BitVec 32 := 2#32
  let v82_r0 : BitVec 32 := Scalar.remui v61_3_r0 c2_i32_60_r0
  ![v82_r0.toNat]
def k0_off21 (v61_3_r0 : BitVec 32) : Fin 3 → Nat :=
  let c2_i32_60_r0 : BitVec 32 := 2#32
  let v82_r0 : BitVec 32 := Scalar.remui v61_3_r0 c2_i32_60_r0
  let c0_i32_66_r0 : BitVec 32 := 0#32
  let c0_i32_67_r0 : BitVec 32 := 0#32
  ![v82_r0.toNat, 0, 0]

def k0_chk4 (v61_3_r0 : BitVec 32) : Prop :=
  (∀ a, (k0_off18 v61_3_r0) a + S1x128x128.size a ≤ S2x128x128.size a) ∧
  (∀ a, (k0_off20 v61_3_r0) a + S1.size a ≤ S2.size a) ∧
  (∀ a, (k0_off21 v61_3_r0) a + S1x128x128.size a ≤ S2x128x128.size a)
theorem k0_off18_inb : ∀ (v61_3_r0 : BitVec 32) (k0_hw4 : k0_chk4 v61_3_r0), ∀ a, (k0_off18 v61_3_r0) a + S1x128x128.size a ≤ S2x128x128.size a := fun v61_3_r0 k0_hw4 => k0_hw4.1
theorem k0_off20_inb : ∀ (v61_3_r0 : BitVec 32) (k0_hw4 : k0_chk4 v61_3_r0), ∀ a, (k0_off20 v61_3_r0) a + S1.size a ≤ S2.size a := fun v61_3_r0 k0_hw4 => k0_hw4.2.1
theorem k0_off21_inb : ∀ (v61_3_r0 : BitVec 32) (k0_hw4 : k0_chk4 v61_3_r0), ∀ a, (k0_off21 v61_3_r0) a + S1x128x128.size a ≤ S2x128x128.size a := fun v61_3_r0 k0_hw4 => k0_hw4.2.2

abbrev grid1 : Pipeline.Grid := .none

abbrev stage1_0 : Fin 1 → Memref sig .tc .vmem S4x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S768x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048 : Shape := ⟨2, ![4, 2048]⟩
abbrev S100000x128 : Shape := ⟨2, ![100000, 128]⟩
abbrev S2x128 : Shape := ⟨2, ![2, 128]⟩
abbrev S768x128 : Shape := ⟨2, ![768, 128]⟩
abbrev S768 : Shape := ⟨1, ![768]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S4x2048x128 : Shape := ⟨3, ![4, 2048, 128]⟩
abbrev S4x2048x768 : Shape := ⟨3, ![4, 2048, 768]⟩
abbrev S1x1x768 : Shape := ⟨3, ![1, 1, 768]⟩

abbrev nBuf : Space → Nat
  | .hbm => 74
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S100000x128, .f32⟩
  | .hbm, ⟨3, _⟩ => ⟨S2x128, .f32⟩
  | .hbm, ⟨4, _⟩ => ⟨S768x128, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S4x2048, .i32⟩
  | .hbm, ⟨9, _⟩ => ⟨S4x2048, .i1⟩
  | .hbm, ⟨10, _⟩ => ⟨S_, .i32⟩
  | .hbm, ⟨11, _⟩ => ⟨S4x2048, .i32⟩
  | .hbm, ⟨12, _⟩ => ⟨S4x2048, .i32⟩
  | .hbm, ⟨13, _⟩ => ⟨S4x2048, .i32⟩
  | .hbm, ⟨14, _⟩ => ⟨S4x2048x1, .i32⟩
  | .hbm, ⟨15, _⟩ => ⟨S1, .i32⟩
  | .hbm, ⟨16, _⟩ => ⟨S_, .i32⟩
  | .hbm, ⟨17, _⟩ => ⟨S4x2048x1, .i32⟩
  | .hbm, ⟨18, _⟩ => ⟨S4x2048x1, .i1⟩
  | .hbm, ⟨19, _⟩ => ⟨S1x1x1, .i32⟩
  | .hbm, ⟨20, _⟩ => ⟨S4x2048x1, .i32⟩
  | .hbm, ⟨21, _⟩ => ⟨S4x2048x1, .i1⟩
  | .hbm, ⟨22, _⟩ => ⟨S4x2048x1, .i1⟩
  | .hbm, ⟨23, _⟩ => ⟨S_, .i1⟩
  | .hbm, ⟨24, _⟩ => ⟨S4x2048, .i1⟩
  | .hbm, ⟨25, _⟩ => ⟨S4x2048x128, .f32⟩
  | .hbm, ⟨26, _⟩ => ⟨S4x2048x128, .i1⟩
  | .hbm, ⟨27, _⟩ => ⟨S_, .f32⟩
  | .hbm, ⟨28, _⟩ => ⟨S4x2048x128, .f32⟩
  | .hbm, ⟨29, _⟩ => ⟨S4x2048x128, .f32⟩
  | .hbm, ⟨30, _⟩ => ⟨S_, .i32⟩
  | .hbm, ⟨31, _⟩ => ⟨S4x2048, .i32⟩
  | .hbm, ⟨32, _⟩ => ⟨S4x2048, .i1⟩
  | .hbm, ⟨33, _⟩ => ⟨S_, .i32⟩
  | .hbm, ⟨34, _⟩ => ⟨S4x2048, .i32⟩
  | .hbm, ⟨35, _⟩ => ⟨S4x2048, .i32⟩
  | .hbm, ⟨36, _⟩ => ⟨S4x2048, .i32⟩
  | .hbm, ⟨37, _⟩ => ⟨S4x2048x1, .i32⟩
  | .hbm, ⟨38, _⟩ => ⟨S1, .i32⟩
  | .hbm, ⟨39, _⟩ => ⟨S_, .i32⟩
  | .hbm, ⟨40, _⟩ => ⟨S4x2048x1, .i32⟩
  | .hbm, ⟨41, _⟩ => ⟨S4x2048x1, .i1⟩
  | .hbm, ⟨42, _⟩ => ⟨S1x1x1, .i32⟩
  | .hbm, ⟨43, _⟩ => ⟨S4x2048x1, .i32⟩
  | .hbm, ⟨44, _⟩ => ⟨S4x2048x1, .i1⟩
  | .hbm, ⟨45, _⟩ => ⟨S4x2048x1, .i1⟩
  | .hbm, ⟨46, _⟩ => ⟨S_, .i1⟩
  | .hbm, ⟨47, _⟩ => ⟨S4x2048, .i1⟩
  | .hbm, ⟨48, _⟩ => ⟨S4x2048x128, .f32⟩
  | .hbm, ⟨49, _⟩ => ⟨S4x2048x128, .i1⟩
  | .hbm, ⟨50, _⟩ => ⟨S_, .f32⟩
  | .hbm, ⟨51, _⟩ => ⟨S4x2048x128, .f32⟩
  | .hbm, ⟨52, _⟩ => ⟨S4x2048x128, .f32⟩
  | .hbm, ⟨53, _⟩ => ⟨S4x2048x128, .f32⟩
  | .hbm, ⟨54, _⟩ => ⟨S4x2048x768, .f32⟩
  | .hbm, ⟨55, _⟩ => ⟨S1x1x768, .f32⟩
  | .hbm, ⟨56, _⟩ => ⟨S4x2048x768, .f32⟩
  | .hbm, ⟨57, _⟩ => ⟨S4x2048x768, .f32⟩
  | .hbm, ⟨58, _⟩ => ⟨S4x2048x768, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S4x2048x1, .f32⟩
  | .hbm, ⟨69, _⟩ => ⟨S4x2048x768, .f32⟩
  | .hbm, ⟨70, _⟩ => ⟨S4x2048x768, .f32⟩
  | .hbm, ⟨71, _⟩ => ⟨S1x1x768, .f32⟩
  | .hbm, ⟨72, _⟩ => ⟨S4x2048x768, .f32⟩
  | .hbm, ⟨73, _⟩ => ⟨S4x2048x768, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_cst_1 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩

abbrev nD : Nat := 1
abbrev τ : Topo := Topo.v7x

variable {F : FTy → Type} [FloatOps F]
-- ==== Proof.Offsets.lean ====
module
public import proofs.«01_k».proof.Defs
public import proofs.«01_k».proof.Proof.Gen.KernelIdeal
public import proofs.«01_k».proof.Proof.Gen.KernelIdeal.Skeleton

@[expose] public section

open Idealize.ShloMosaic

namespace Cert.KernelIdeal.Gather

/-- The block of 128 indices that tile `i` handles at step `t` (0 or 1). -/
def blk (i : grid0.Coords) (t : ℕ) : ℕ := 2 * (16 * (i 0).val + (i 1).val) + t

/-- Where block `t` of tile `i` starts in the index array. -/
def idOff (i : grid0.Coords) (t : ℕ) : Fin 2 → ℕ := ![blk i t / 16, 128 * (blk i t % 16)]

/-- Where block `t` of tile `i` starts among the gathered rows. -/
def rowOff (i : grid0.Coords) (t : ℕ) : Fin 2 → ℕ := ![128 * blk i t, 0]

theorem trips_two : k0_t1_loop.trips = 2 := by decide +kernel

/-- The first and the second trip of the pipeline's loop. -/
abbrev tr0 : Fin k0_t1_loop.trips := ⟨0, by decide +kernel⟩
abbrev tr1 : Fin k0_t1_loop.trips := ⟨1, by decide +kernel⟩

theorem off2_eq : ∀ i : grid0.Coords, k0_off2 i = idOff i 0 := by decide +kernel
theorem off5_eq : ∀ i : grid0.Coords, k0_off5 i 0#32 = idOff i 1 := by decide +kernel
theorem off8_eq0 : ∀ i : grid0.Coords, k0_off8 i 0#32 = idOff i 0 := by decide +kernel
theorem off8_eq1 : ∀ i : grid0.Coords, k0_off8 i 1#32 = idOff i 1 := by decide +kernel
theorem off13_eq0 : ∀ i : grid0.Coords, k0_off13 i 0#32 = rowOff i 0 := by decide +kernel
theorem off13_eq1 : ∀ i : grid0.Coords, k0_off13 i 1#32 = rowOff i 1 := by decide +kernel
theorem off16_eq : ∀ i : grid0.Coords, k0_off16 i 1#32 = rowOff i 0 := by decide +kernel
theorem off19_eq : ∀ i : grid0.Coords, k0_off19 i 0#32 = rowOff i 1 := by decide +kernel

theorem off4_eq : k0_off4 1#32 = ![1, 0, 0] := by decide +kernel
theorem off6_eq : k0_off6 1#32 = ![1] := by decide +kernel
theorem off7_eq0 : k0_off7 0#32 = ![0, 0, 0] := by decide +kernel
theorem off7_eq1 : k0_off7 1#32 = ![1, 0, 0] := by decide +kernel
theorem off9_eq0 : k0_off9 0#32 = ![0] := by decide +kernel
theorem off9_eq1 : k0_off9 1#32 = ![1] := by decide +kernel
theorem off10_eq0 : k0_off10 0#32 = ![0, 0, 0] := by decide +kernel
theorem off10_eq1 : k0_off10 1#32 = ![1, 0, 0] := by decide +kernel
theorem off11_eq0 : k0_off11 0#32 = ![0, 0, 0] := by decide +kernel
theorem off11_eq1 : k0_off11 1#32 = ![1, 0, 0] := by decide +kernel
theorem off12_eq0 : k0_off12 0#32 = ![0, 0, 0] := by decide +kernel
theorem off12_eq1 : k0_off12 1#32 = ![1, 0, 0] := by decide +kernel
theorem off14_eq0 : k0_off14 0#32 = ![0] := by decide +kernel
theorem off14_eq1 : k0_off14 1#32 = ![1] := by decide +kernel
theorem off15_eq : k0_off15 0#32 = ![0, 0, 0] := by decide +kernel
theorem off17_eq : k0_off17 0#32 = ![0] := by decide +kernel
theorem off18_eq : k0_off18 1#32 = ![1, 0, 0] := by decide +kernel
theorem off20_eq : k0_off20 1#32 = ![1] := by decide +kernel
theorem off21_eq : k0_off21 1#32 = ![1, 0, 0] := by decide +kernel

theorem cond1_0 : ∀ i : grid0.Coords, k0_cond1 i tr0 0#32 = 1#1 := by decide +kernel
theorem cond1_1 : ∀ i : grid0.Coords, ¬ k0_cond1 i tr1 1#32 = 1#1 := by decide +kernel
theorem cond2_0 : ∀ i : grid0.Coords, k0_cond2 i tr0 0#32 = 1#1 := by decide +kernel
theorem cond2_1 : ∀ i : grid0.Coords, k0_cond2 i tr1 1#32 = 1#1 := by decide +kernel
theorem cond5_0 : ∀ i : grid0.Coords, k0_cond5 i tr0 0#32 = 1#1 := by decide +kernel
theorem cond5_1 : ∀ i : grid0.Coords, k0_cond5 i tr1 1#32 = 1#1 := by decide +kernel
theorem cond7_0 : ∀ i : grid0.Coords, ¬ k0_cond7 i tr0 0#32 = 1#1 := by decide +kernel
theorem cond7_1 : ∀ i : grid0.Coords, k0_cond7 i tr1 1#32 = 1#1 := by decide +kernel

theorem chk1_0 : ∀ i : grid0.Coords, k0_chk1 i tr0 1#32 0#32 0#32 0#32 0#32 := by decide +kernel
theorem chk1_1 : ∀ i : grid0.Coords, k0_chk1 i tr1 2#32 1#32 1#32 0#32 1#32 := by decide +kernel
theorem chk2_0 : k0_chk2 0#32 := by decide +kernel
theorem chk2_1 : k0_chk2 1#32 := by decide +kernel
theorem chk3_0 : k0_chk3 0#32 := by decide +kernel
theorem chk3_1 : k0_chk3 1#32 := by decide +kernel
theorem chk4_1 : k0_chk4 1#32 := by decide +kernel
theorem chk5_0 : ∀ i : grid0.Coords, k0_chk5 i 0#32 := by decide +kernel

end Cert.KernelIdeal.Gather
-- ==== Proof.Setup.lean ====
module
public import proofs.«01_k».proof.Defs
public import proofs.«01_k».proof.Proof.Offsets
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Launch
public import proofs.«01_k».proof.Proof.Gen.KernelIdeal.Points

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the staging pipeline's rounds, the transfers' counters -/

abbrev UH : Type := URounds (GSem nD τ sig) ℕ
abbrev UP : Type := URounds (GSem nD τ sig) Unit
abbrev UU : Type := UH × (UP × Counters)

/-- The resources of the proof. -/
local notation "𝕄" => MT nD τ sig (HIx 1) (Elt F) ℕ UU ℕ

abbrev EH : Emb UH (MT nD τ sig (HIx 1) (Elt F) ℕ UU ℕ) := embL

/-- The staging pipeline's component. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

abbrev nLoc (d : Dev nD) : Loc nD τ sig := (SparseCore.T d).loc main_arg0
abbrev tLoc (d : Dev nD) : Loc nD τ sig := (SparseCore.T d).loc main_arg2
abbrev gLoc (d : Dev nD) : Loc nD τ sig := (SparseCore.T d).loc main_v0

/-- Row `j` of the gathered array: the table's row that index `j` (row-major over the index array) names. -/
def gat {α : Type} (tbl : S100000x128.Idx → α) (ids : S4x2048.Idx → BitVec 32) : S8192x128.Idx → α := fun j =>
  tbl fun | ⟨0, _⟩ => ⟨(ids fun | ⟨0, _⟩ => ⟨(j 0).val / 2048, by have : (j 0).val < 8192 := (j 0).isLt; show _ < 4; omega⟩
                                | ⟨1, _⟩ => ⟨(j 0).val % 2048, Nat.mod_lt _ (by decide)⟩).toNat % 100000, Nat.mod_lt _ (by decide)⟩
          | ⟨1, _⟩ => ⟨(j 1).val, (j 1).isLt⟩

/-! ## The pieces a tile addresses -/

abbrev cV (L : grid0.Coords) : Fin τ.nSC := (L 0).castLE hcore0
abbrev jV (L : grid0.Coords) : Fin τ.nSub := (L 1).castLE hsub0

abbrev tV : Memref sig Kind.scVector Space.hbm S100000x128 EltTy.f32 := Memref.whole main_arg2_scv
abbrev nV : Memref sig Kind.scVector Space.hbm S4x2048 EltTy.i32 := Memref.whole main_arg0_scv
abbrev gV : Memref sig Kind.scVector Space.hbm S8192x128 EltTy.f32 := Memref.whole main_v0_scv
abbrev sV : Memref sig Kind.scVector Space.vmem S2x1x128 EltTy.i32 := Memref.whole cc0_scoped0
abbrev rV : Memref sig Kind.scVector Space.vmem S2x128x128 EltTy.f32 := Memref.whole cc0_scoped2

theorem idOff_inb0 : ∀ L : grid0.Coords, ∀ a, idOff L 0 a + S1x128.size a ≤ S4x2048.size a := by decide +kernel
theorem idOff_inb1 : ∀ L : grid0.Coords, ∀ a, idOff L 1 a + S1x128.size a ≤ S4x2048.size a := by decide +kernel
theorem rowOff_inb0 : ∀ L : grid0.Coords, ∀ a, rowOff L 0 a + S128x128.size a ≤ S8192x128.size a := by decide +kernel
theorem rowOff_inb1 : ∀ L : grid0.Coords, ∀ a, rowOff L 1 a + S128x128.size a ≤ S8192x128.size a := by decide +kernel
theorem slot_inb0 : ∀ a, (![0, 0, 0] : Fin 3 → ℕ) a + S1x1x128.size a ≤ S2x1x128.size a := by decide +kernel
theorem slot_inb1 : ∀ a, (![1, 0, 0] : Fin 3 → ℕ) a + S1x1x128.size a ≤ S2x1x128.size a := by decide +kernel
theorem rslot_inb0 : ∀ a, (![0, 0, 0] : Fin 3 → ℕ) a + S1x128x128.size a ≤ S2x128x128.size a := by decide +kernel
theorem rslot_inb1 : ∀ a, (![1, 0, 0] : Fin 3 → ℕ) a + S1x128x128.size a ≤ S2x128x128.size a := by decide +kernel

/-- The two blocks of indices of a tile, the two slots they land in, the two slots the rows land in, and the two
    blocks of rows they go out to. -/
abbrev idB0 (L : grid0.Coords) : Memref sig Kind.scVector Space.hbm S1x128 EltTy.i32 :=
  (nV).slice (Rect.unit (s := S4x2048) (idOff L 0) S1x128.size (idOff_inb0 L)) (fun _ => rfl)
abbrev idB1 (L : grid0.Coords) : Memref sig Kind.scVector Space.hbm S1x128 EltTy.i32 :=
  (nV).slice (Rect.unit (s := S4x2048) (idOff L 1) S1x128.size (idOff_inb1 L)) (fun _ => rfl)
abbrev idS0 : Memref sig Kind.scVector Space.vmem S1x128 EltTy.i32 :=
  ((sV).slice (Rect.unit (s := S2x1x128) ![0, 0, 0] S1x1x128.size slot_inb0) (fun _ => rfl)).squeeze S1x128 squeezes_S1x1x128_S1x128
abbrev idS1 : Memref sig Kind.scVector Space.vmem S1x128 EltTy.i32 :=
  ((sV).slice (Rect.unit (s := S2x1x128) ![1, 0, 0] S1x1x128.size slot_inb1) (fun _ => rfl)).squeeze S1x128 squeezes_S1x1x128_S1x128
abbrev rowS0 : Memref sig Kind.scVector Space.vmem S128x128 EltTy.f32 :=
  ((rV).slice (Rect.unit (s := S2x128x128) ![0, 0, 0] S1x128x128.size rslot_inb0) (fun _ => rfl)).squeeze S128x128 squeezes_S1x128x128_S128x128
abbrev rowS1 : Memref sig Kind.scVector Space.vmem S128x128 EltTy.f32 :=
  ((rV).slice (Rect.unit (s := S2x128x128) ![1, 0, 0] S1x128x128.size rslot_inb1) (fun _ => rfl)).squeeze S128x128 squeezes_S1x128x128_S128x128
abbrev rowB0 (L : grid0.Coords) : Memref sig Kind.scVector Space.hbm S128x128 EltTy.f32 :=
  (gV).slice (Rect.unit (s := S8192x128) (rowOff L 0) S128x128.size (rowOff_inb0 L)) (fun _ => rfl)
abbrev rowB1 (L : grid0.Coords) : Memref sig Kind.scVector Space.hbm S128x128 EltTy.f32 :=
  (gV).slice (Rect.unit (s := S8192x128) (rowOff L 1) S128x128.size (rowOff_inb1 L)) (fun _ => rfl)
/-- The whole table as the tile's gather addresses it. -/
abbrev tabV : Memref sig Kind.scVector Space.hbm S100000x128 EltTy.f32 :=
  (tV).slice (Rect.unit (s := S100000x128) ![0, 0] S100000x128.size inb_S100000x128_S100000x128_0_0) (fun _ => rfl)
/-- A slot of indices as the gather's list. -/
abbrev lst0 : Memref sig Kind.scVector Space.vmem S128 EltTy.i32 :=
  ((idS0).slice (Rect.unit (s := S1x128) ![0, 0] S1x128.size inb_S1x128_S1x128_0_0) (fun _ => rfl)).squeeze S128 squeezes_S1x128_S128
abbrev lst1 : Memref sig Kind.scVector Space.vmem S128 EltTy.i32 :=
  ((idS1).slice (Rect.unit (s := S1x128) ![0, 0] S1x128.size inb_S1x128_S1x128_0_0) (fun _ => rfl)).squeeze S128 squeezes_S1x128_S128

end Cert.KernelIdeal.Gather

end
-- ==== Proof.RowVal.lean ====
module
public import proofs.«01_k».proof.Proof.Setup

@[expose] public section

noncomputable section

namespace Cert.KernelIdeal.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

variable (d : Dev nD) (L : grid0.Coords)

/-- Position `x` of a gather's list, as an index of the slot it is read through. -/
def lidx (x : S128.Idx) : S1x128.Idx := fun | ⟨0, _⟩ => ⟨0, show 0 < 1 by omega⟩ | ⟨1, _⟩ => ⟨(x 0).val, (x 0).isLt⟩

theorem lidx_eq : ∀ x : S128.Idx, (Rect.unit (s := S1x128) ![0, 0] S1x128.size inb_S1x128_S1x128_0_0).emb
    ((Shape.reshapeEquiv (squeezes_S1x128_S128).numel_eq) x) = lidx x := by decide +kernel

theorem whole_set : (Rect.unit (s := S1x128) ![0, 0] S1x128.size inb_S1x128_S1x128_0_0).set = Finset.univ := by decide +kernel
theorem set_lst0 : (lst0).view.set = (idS0).view.set := by
  show (((idS0).view.slice (Rect.unit (s := S1x128) ![0, 0] S1x128.size inb_S1x128_S1x128_0_0)).reshape S128 (squeezes_S1x128_S128).numel_eq).set = _
  rw [View.set_reshape, View.set_slice, whole_set]; rfl
theorem set_lst1 : (lst1).view.set = (idS1).view.set := by
  show (((idS1).view.slice (Rect.unit (s := S1x128) ![0, 0] S1x128.size inb_S1x128_S1x128_0_0)).reshape S128 (squeezes_S1x128_S128).numel_eq).set = _
  rw [View.set_reshape, View.set_slice, whole_set]; rfl

theorem lst0_read (fo : Buf (Elt F) ((V d (cV L) (jV L)).loc cc0_scoped0)) (pay : S1x128.Idx → Elt F .i32) (x : S128.Idx) :
    (lst0).view.read (Elt F) ((idS0).view.writes (Elt F) fo [⟨Rect.whole S1x128, pay⟩]) x = pay (lidx x) := by
  refine Eq.trans ?_ (View.read_writes_cons_emb (v := (idS0).view) (f := fo) (Rect.whole S1x128) pay [] (lidx x))
  rw [show (Rect.whole S1x128).emb (lidx x) = lidx x from Rect.emb_whole_apply _ _, ← lidx_eq]; rfl
theorem lst1_read (fo : Buf (Elt F) ((V d (cV L) (jV L)).loc cc0_scoped0)) (pay : S1x128.Idx → Elt F .i32) (x : S128.Idx) :
    (lst1).view.read (Elt F) ((idS1).view.writes (Elt F) fo [⟨Rect.whole S1x128, pay⟩]) x = pay (lidx x) := by
  refine Eq.trans ?_ (View.read_writes_cons_emb (v := (idS1).view) (f := fo) (Rect.whole S1x128) pay [] (lidx x))
  rw [show (Rect.whole S1x128).emb (lidx x) = lidx x from Rect.emb_whole_apply _ _, ← lidx_eq]; rfl

/-- The first coordinate of an index of a block of rows, as a position of the list. -/
def fst1 (x : S128x128.Idx) : S128.Idx := fun | ⟨0, _⟩ => ⟨(x 0).val, (x 0).isLt⟩

/-- Entry `(n, c)` of the table. -/
def tix (n : ℕ) (c : Fin 128) : S100000x128.Idx :=
  fun | ⟨0, _⟩ => ⟨n % 100000, Nat.mod_lt _ (by decide)⟩ | ⟨1, _⟩ => ⟨c.val, c.isLt⟩

theorem rm128 : ∀ k : Fin S128.numel, ∀ a, (S128.rowMajor.symm k a).val = k.val := by decide +kernel

theorem tabV_emb (y : S100000x128.Idx) : (tabV).view.emb y = y := by
  funext a
  refine Fin.ext ?_
  show (![0, 0] : Fin 2 → ℕ) a + 1 * (y a).val = (y a).val
  match a with
  | 0 => simp
  | 1 => simp

theorem payload_val (tbl : Buf (Elt F) ((V d (cV L) (jV L)).loc main_arg2_scv)) (lst : S128.Idx → Elt F .i32) (hn hin) (x : S128x128.Idx) :
    SparseCore.gatherPayload (F := F) (e := .f32) gathers_S100000x128_S128x128 ((tabV).view.read (Elt F) tbl) (SparseCore.rows lst hn hin) x
      = tbl (tix (lst (fst1 x)).toNat ⟨(x 1).val, (x 1).isLt⟩) := by
  unfold SparseCore.gatherPayload
  rw [View.read_apply]
  rw [cast_eq]
  rw [tabV_emb]
  congr 1
  funext b
  refine Fin.ext ?_
  match b with
  | ⟨0, _⟩ =>
    show ((SparseCore.rows lst hn hin _ : Fin _).val : ℕ) = (lst (fst1 x)).toNat % 100000
    unfold SparseCore.rows
    have e : S128.rowMajor.symm (Fin.cast hn.symm (x 0)) = fst1 x := by
      funext a
      refine Fin.ext ?_
      rw [rm128]
      match a with
      | ⟨0, _⟩ => rfl
    have hm : (lst (fst1 x)).toNat % 100000 = (lst (fst1 x)).toNat := Nat.mod_eq_of_lt (hin _)
    rw [hm]
    exact congrArg (fun k => (lst k).toNat) e
  | ⟨1, _⟩ => rfl

theorem gat_val0 {α : Type} (tbl : S100000x128.Idx → α) (ids : S4x2048.Idx → BitVec 32) (x : S128x128.Idx) :
    gat tbl ids ((rowB0 L).view.emb x) = tbl (tix (ids ((idB0 L).view.emb (lidx (fst1 x)))).toNat ⟨(x 1).val, (x 1).isLt⟩) := by
  have h0 : ((rowB0 L).view.emb x 0).val = 128 * blk L 0 + 1 * (x 0).val := rfl
  have h1 : ((rowB0 L).view.emb x 1).val = 0 + 1 * (x 1).val := rfl
  have hx : (x 0).val < 128 := (x 0).isLt
  unfold gat
  congr 1
  funext b
  refine Fin.ext ?_
  match b with
  | ⟨0, _⟩ =>
    show (ids _).toNat % 100000 = (ids _).toNat % 100000
    congr 3
    funext a
    refine Fin.ext ?_
    match a with
    | ⟨0, _⟩ =>
      show ((rowB0 L).view.emb x 0).val / 2048 = blk L 0 / 16 + 1 * 0
      rw [h0]; omega
    | ⟨1, _⟩ =>
      show ((rowB0 L).view.emb x 0).val % 2048 = 128 * (blk L 0 % 16) + 1 * (x 0).val
      rw [h0]; omega
  | ⟨1, _⟩ =>
    show ((rowB0 L).view.emb x 1).val = (x 1).val
    rw [h1]; omega

theorem gat_val1 {α : Type} (tbl : S100000x128.Idx → α) (ids : S4x2048.Idx → BitVec 32) (x : S128x128.Idx) :
    gat tbl ids ((rowB1 L).view.emb x) = tbl (tix (ids ((idB1 L).view.emb (lidx (fst1 x)))).toNat ⟨(x 1).val, (x 1).isLt⟩) := by
  have h0 : ((rowB1 L).view.emb x 0).val = 128 * blk L 1 + 1 * (x 0).val := rfl
  have h1 : ((rowB1 L).view.emb x 1).val = 0 + 1 * (x 1).val := rfl
  have hx : (x 0).val < 128 := (x 0).isLt
  unfold gat
  congr 1
  funext b
  refine Fin.ext ?_
  match b with
  | ⟨0, _⟩ =>
    show (ids _).toNat % 100000 = (ids _).toNat % 100000
    congr 3
    funext a
    refine Fin.ext ?_
    match a with
    | ⟨0, _⟩ =>
      show ((rowB1 L).view.emb x 0).val / 2048 = blk L 1 / 16 + 1 * 0
      rw [h0]; omega
    | ⟨1, _⟩ =>
      show ((rowB1 L).view.emb x 0).val % 2048 = 128 * (blk L 1 % 16) + 1 * (x 0).val
      rw [h0]; omega
  | ⟨1, _⟩ =>
    show ((rowB1 L).view.emb x 1).val = (x 1).val
    rw [h1]; omega

/-- What a tile's first block of output rows holds: the table's rows its first block of indices names. -/
theorem rowB0_val (tbl : Buf (Elt F) ((V d (cV L) (jV L)).loc main_arg2_scv)) (ids : Buf (Elt F) ((V d (cV L) (jV L)).loc main_arg0_scv))
    (g : Buf (Elt F) ((V d (cV L) (jV L)).loc main_v0_scv)) (fs : Buf (Elt F) ((V d (cV L) (jV L)).loc cc0_scoped0))
    (fr : Buf (Elt F) ((V d (cV L) (jV L)).loc cc0_scoped2)) (hn hin) :
    ∀ i ∈ (rowB0 L).view.set, (rowB0 L).view.writes (Elt F) g [⟨Rect.whole S128x128, (rowS0).view.read (Elt F)
        (View.write (Elt F) (rowS0).view fr (SparseCore.gatherPayload gathers_S100000x128_S128x128 ((tabV).view.read (Elt F) tbl)
          (SparseCore.rows ((lst0).view.read (Elt F) ((idS0).view.writes (Elt F) fs
            [⟨Rect.whole S1x128, (idB0 L).view.read (Elt F) ids⟩])) hn hin)) Finset.univ)⟩] i = gat tbl ids i := by
  intro i hi
  obtain ⟨x, -, rfl⟩ := Finset.mem_map.mp hi
  have h := congrFun (View.read_writes_whole (rowB0 L).view g ((rowS0).view.read (Elt F)
        (View.write (Elt F) (rowS0).view fr (SparseCore.gatherPayload gathers_S100000x128_S128x128 ((tabV).view.read (Elt F) tbl)
          (SparseCore.rows ((lst0).view.read (Elt F) ((idS0).view.writes (Elt F) fs
            [⟨Rect.whole S1x128, (idB0 L).view.read (Elt F) ids⟩])) hn hin)) Finset.univ))) x
  rw [View.read_apply, cast_eq] at h
  refine h.trans ?_
  rw [View.read_write_univ, payload_val d L, lst0_read d L, gat_val0, View.read_apply, cast_eq]

/-- What a tile's second block of output rows holds: the table's rows its second block of indices names. -/
theorem rowB1_val (tbl : Buf (Elt F) ((V d (cV L) (jV L)).loc main_arg2_scv)) (ids : Buf (Elt F) ((V d (cV L) (jV L)).loc main_arg0_scv))
    (g : Buf (Elt F) ((V d (cV L) (jV L)).loc main_v0_scv)) (fs : Buf (Elt F) ((V d (cV L) (jV L)).loc cc0_scoped0))
    (fr : Buf (Elt F) ((V d (cV L) (jV L)).loc cc0_scoped2)) (hn hin) :
    ∀ i ∈ (rowB1 L).view.set, (rowB1 L).view.writes (Elt F) g [⟨Rect.whole S128x128, (rowS1).view.read (Elt F)
        (View.write (Elt F) (rowS1).view fr (SparseCore.gatherPayload gathers_S100000x128_S128x128 ((tabV).view.read (Elt F) tbl)
          (SparseCore.rows ((lst1).view.read (Elt F) ((idS1).view.writes (Elt F) fs
            [⟨Rect.whole S1x128, (idB1 L).view.read (Elt F) ids⟩])) hn hin)) Finset.univ)⟩] i = gat tbl ids i := by
  intro i hi
  obtain ⟨x, -, rfl⟩ := Finset.mem_map.mp hi
  have h := congrFun (View.read_writes_whole (rowB1 L).view g ((rowS1).view.read (Elt F)
        (View.write (Elt F) (rowS1).view fr (SparseCore.gatherPayload gathers_S100000x128_S128x128 ((tabV).view.read (Elt F) tbl)
          (SparseCore.rows ((lst1).view.read (Elt F) ((idS1).view.writes (Elt F) fs
            [⟨Rect.whole S1x128, (idB1 L).view.read (Elt F) ids⟩])) hn hin)) Finset.univ))) x
  rw [View.read_apply, cast_eq] at h
  refine h.trans ?_
  rw [View.read_write_univ, payload_val d L, lst1_read d L, gat_val1, View.read_apply, cast_eq]

end Cert.KernelIdeal.Gather

end
-- ==== Proof.Tile.lean ====
module
public import proofs.«01_k».proof.Proof.RowVal

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

variable [FloatOps F] (d : Dev nD) (L : grid0.Coords)

theorem sem_inb0 : ∀ a, (![0] : Fin 1 → ℕ) a + S1.size a ≤ S2.size a := by decide +kernel
theorem sem_inb1 : ∀ a, (![1] : Fin 1 → ℕ) a + S1.size a ≤ S2.size a := by decide +kernel

abbrev in0 : DmaSems sig S_ := (cc0_scoped1.slice (Rect.unit (s := S2) ![0] S1.size sem_inb0)).squeeze S_ squeezes_S1_S_
abbrev in1 : DmaSems sig S_ := (cc0_scoped1.slice (Rect.unit (s := S2) ![1] S1.size sem_inb1)).squeeze S_ squeezes_S1_S_
abbrev ou0 : DmaSems sig S_ := (cc0_scoped3.slice (Rect.unit (s := S2) ![0] S1.size sem_inb0)).squeeze S_ squeezes_S1_S_
abbrev ou1 : DmaSems sig S_ := (cc0_scoped3.slice (Rect.unit (s := S2) ![1] S1.size sem_inb1)).squeeze S_ squeezes_S1_S_

theorem m2 (h p) : ((nV).slice (Rect.unit (s := S4x2048) (k0_off2 L) S1x128.size h) p : Memref sig .scVector .hbm S1x128 .i32) = idB0 L := by
  have e := off2_eq L
  generalize k0_off2 L = o at *; subst e; rfl

theorem m5 (h p) : ((nV).slice (Rect.unit (s := S4x2048) (k0_off5 L 0#32) S1x128.size h) p : Memref sig .scVector .hbm S1x128 .i32) = idB1 L := by
  have e := off5_eq L
  generalize k0_off5 L 0#32 = o at *; subst e; rfl

theorem m8a (h p) : ((nV).slice (Rect.unit (s := S4x2048) (k0_off8 L 0#32) S1x128.size h) p : Memref sig .scVector .hbm S1x128 .i32) = idB0 L := by
  have e := off8_eq0 L
  generalize k0_off8 L 0#32 = o at *; subst e; rfl

theorem m8b (h p) : ((nV).slice (Rect.unit (s := S4x2048) (k0_off8 L 1#32) S1x128.size h) p : Memref sig .scVector .hbm S1x128 .i32) = idB1 L := by
  have e := off8_eq1 L
  generalize k0_off8 L 1#32 = o at *; subst e; rfl

theorem m13a (h p) : ((gV).slice (Rect.unit (s := S8192x128) (k0_off13 L 0#32) S128x128.size h) p : Memref sig .scVector .hbm S128x128 .f32) = rowB0 L := by
  have e := off13_eq0 L
  generalize k0_off13 L 0#32 = o at *; subst e; rfl

theorem m13b (h p) : ((gV).slice (Rect.unit (s := S8192x128) (k0_off13 L 1#32) S128x128.size h) p : Memref sig .scVector .hbm S128x128 .f32) = rowB1 L := by
  have e := off13_eq1 L
  generalize k0_off13 L 1#32 = o at *; subst e; rfl

theorem m16 (h p) : ((gV).slice (Rect.unit (s := S8192x128) (k0_off16 L 1#32) S128x128.size h) p : Memref sig .scVector .hbm S128x128 .f32) = rowB0 L := by
  have e := off16_eq L
  generalize k0_off16 L 1#32 = o at *; subst e; rfl

theorem m19 (h p) : ((gV).slice (Rect.unit (s := S8192x128) (k0_off19 L 0#32) S128x128.size h) p : Memref sig .scVector .hbm S128x128 .f32) = rowB1 L := by
  have e := off19_eq L
  generalize k0_off19 L 0#32 = o at *; subst e; rfl

theorem m1 (h p) : ((sV).slice (Rect.unit (s := S2x1x128) (k0_off1) S1x1x128.size h) p : Memref sig .scVector .vmem S1x1x128 .i32) = (sV).slice (Rect.unit (s := S2x1x128) ![0, 0, 0] S1x1x128.size slot_inb0) (fun _ => rfl) := by
  have e := k0_off1_eq
  generalize k0_off1 = o at *; subst e; rfl

theorem m4 (h p) : ((sV).slice (Rect.unit (s := S2x1x128) (k0_off4 1#32) S1x1x128.size h) p : Memref sig .scVector .vmem S1x1x128 .i32) = (sV).slice (Rect.unit (s := S2x1x128) ![1, 0, 0] S1x1x128.size slot_inb1) (fun _ => rfl) := by
  have e := off4_eq
  generalize k0_off4 1#32 = o at *; subst e; rfl

theorem m7a (h p) : ((sV).slice (Rect.unit (s := S2x1x128) (k0_off7 0#32) S1x1x128.size h) p : Memref sig .scVector .vmem S1x1x128 .i32) = (sV).slice (Rect.unit (s := S2x1x128) ![0, 0, 0] S1x1x128.size slot_inb0) (fun _ => rfl) := by
  have e := off7_eq0
  generalize k0_off7 0#32 = o at *; subst e; rfl

theorem m7b (h p) : ((sV).slice (Rect.unit (s := S2x1x128) (k0_off7 1#32) S1x1x128.size h) p : Memref sig .scVector .vmem S1x1x128 .i32) = (sV).slice (Rect.unit (s := S2x1x128) ![1, 0, 0] S1x1x128.size slot_inb1) (fun _ => rfl) := by
  have e := off7_eq1
  generalize k0_off7 1#32 = o at *; subst e; rfl

theorem m11a (h p) : ((sV).slice (Rect.unit (s := S2x1x128) (k0_off11 0#32) S1x1x128.size h) p : Memref sig .scVector .vmem S1x1x128 .i32) = (sV).slice (Rect.unit (s := S2x1x128) ![0, 0, 0] S1x1x128.size slot_inb0) (fun _ => rfl) := by
  have e := off11_eq0
  generalize k0_off11 0#32 = o at *; subst e; rfl

theorem m11b (h p) : ((sV).slice (Rect.unit (s := S2x1x128) (k0_off11 1#32) S1x1x128.size h) p : Memref sig .scVector .vmem S1x1x128 .i32) = (sV).slice (Rect.unit (s := S2x1x128) ![1, 0, 0] S1x1x128.size slot_inb1) (fun _ => rfl) := by
  have e := off11_eq1
  generalize k0_off11 1#32 = o at *; subst e; rfl

theorem m10a (h p) : ((rV).slice (Rect.unit (s := S2x128x128) (k0_off10 0#32) S1x128x128.size h) p : Memref sig .scVector .vmem S1x128x128 .f32) = (rV).slice (Rect.unit (s := S2x128x128) ![0, 0, 0] S1x128x128.size rslot_inb0) (fun _ => rfl) := by
  have e := off10_eq0
  generalize k0_off10 0#32 = o at *; subst e; rfl

theorem m10b (h p) : ((rV).slice (Rect.unit (s := S2x128x128) (k0_off10 1#32) S1x128x128.size h) p : Memref sig .scVector .vmem S1x128x128 .f32) = (rV).slice (Rect.unit (s := S2x128x128) ![1, 0, 0] S1x128x128.size rslot_inb1) (fun _ => rfl) := by
  have e := off10_eq1
  generalize k0_off10 1#32 = o at *; subst e; rfl

theorem m12a (h p) : ((rV).slice (Rect.unit (s := S2x128x128) (k0_off12 0#32) S1x128x128.size h) p : Memref sig .scVector .vmem S1x128x128 .f32) = (rV).slice (Rect.unit (s := S2x128x128) ![0, 0, 0] S1x128x128.size rslot_inb0) (fun _ => rfl) := by
  have e := off12_eq0
  generalize k0_off12 0#32 = o at *; subst e; rfl

theorem m12b (h p) : ((rV).slice (Rect.unit (s := S2x128x128) (k0_off12 1#32) S1x128x128.size h) p : Memref sig .scVector .vmem S1x128x128 .f32) = (rV).slice (Rect.unit (s := S2x128x128) ![1, 0, 0] S1x128x128.size rslot_inb1) (fun _ => rfl) := by
  have e := off12_eq1
  generalize k0_off12 1#32 = o at *; subst e; rfl

theorem m15 (h p) : ((rV).slice (Rect.unit (s := S2x128x128) (k0_off15 0#32) S1x128x128.size h) p : Memref sig .scVector .vmem S1x128x128 .f32) = (rV).slice (Rect.unit (s := S2x128x128) ![0, 0, 0] S1x128x128.size rslot_inb0) (fun _ => rfl) := by
  have e := off15_eq
  generalize k0_off15 0#32 = o at *; subst e; rfl

theorem m18 (h p) : ((rV).slice (Rect.unit (s := S2x128x128) (k0_off18 1#32) S1x128x128.size h) p : Memref sig .scVector .vmem S1x128x128 .f32) = (rV).slice (Rect.unit (s := S2x128x128) ![1, 0, 0] S1x128x128.size rslot_inb1) (fun _ => rfl) := by
  have e := off18_eq
  generalize k0_off18 1#32 = o at *; subst e; rfl

theorem m21 (h p) : ((rV).slice (Rect.unit (s := S2x128x128) (k0_off21 1#32) S1x128x128.size h) p : Memref sig .scVector .vmem S1x128x128 .f32) = (rV).slice (Rect.unit (s := S2x128x128) ![1, 0, 0] S1x128x128.size rslot_inb1) (fun _ => rfl) := by
  have e := off21_eq
  generalize k0_off21 1#32 = o at *; subst e; rfl

theorem s3 (h) : (SemArray.slice cc0_scoped1 (Rect.unit (s := S2) (k0_off3) S1.size h) : DmaSems sig S1) = SemArray.slice cc0_scoped1 (Rect.unit (s := S2) ![0] S1.size sem_inb0) := by
  have e := k0_off3_eq
  generalize k0_off3 = o at *; subst e; rfl

theorem s6 (h) : (SemArray.slice cc0_scoped1 (Rect.unit (s := S2) (k0_off6 1#32) S1.size h) : DmaSems sig S1) = SemArray.slice cc0_scoped1 (Rect.unit (s := S2) ![1] S1.size sem_inb1) := by
  have e := off6_eq
  generalize k0_off6 1#32 = o at *; subst e; rfl

theorem s9a (h) : (SemArray.slice cc0_scoped1 (Rect.unit (s := S2) (k0_off9 0#32) S1.size h) : DmaSems sig S1) = SemArray.slice cc0_scoped1 (Rect.unit (s := S2) ![0] S1.size sem_inb0) := by
  have e := off9_eq0
  generalize k0_off9 0#32 = o at *; subst e; rfl

theorem s9b (h) : (SemArray.slice cc0_scoped1 (Rect.unit (s := S2) (k0_off9 1#32) S1.size h) : DmaSems sig S1) = SemArray.slice cc0_scoped1 (Rect.unit (s := S2) ![1] S1.size sem_inb1) := by
  have e := off9_eq1
  generalize k0_off9 1#32 = o at *; subst e; rfl

theorem s14a (h) : (SemArray.slice cc0_scoped3 (Rect.unit (s := S2) (k0_off14 0#32) S1.size h) : DmaSems sig S1) = SemArray.slice cc0_scoped3 (Rect.unit (s := S2) ![0] S1.size sem_inb0) := by
  have e := off14_eq0
  generalize k0_off14 0#32 = o at *; subst e; rfl

theorem s14b (h) : (SemArray.slice cc0_scoped3 (Rect.unit (s := S2) (k0_off14 1#32) S1.size h) : DmaSems sig S1) = SemArray.slice cc0_scoped3 (Rect.unit (s := S2) ![1] S1.size sem_inb1) := by
  have e := off14_eq1
  generalize k0_off14 1#32 = o at *; subst e; rfl

theorem s17 (h) : (SemArray.slice cc0_scoped3 (Rect.unit (s := S2) (k0_off17 0#32) S1.size h) : DmaSems sig S1) = SemArray.slice cc0_scoped3 (Rect.unit (s := S2) ![0] S1.size sem_inb0) := by
  have e := off17_eq
  generalize k0_off17 0#32 = o at *; subst e; rfl

theorem s20 (h) : (SemArray.slice cc0_scoped3 (Rect.unit (s := S2) (k0_off20 1#32) S1.size h) : DmaSems sig S1) = SemArray.slice cc0_scoped3 (Rect.unit (s := S2) ![1] S1.size sem_inb1) := by
  have e := off20_eq
  generalize k0_off20 1#32 = o at *; subst e; rfl

set_option maxHeartbeats 4000000 in
theorem tile_core (O : CellTallies nD τ sig (HIx 1)) (W : Waits sig (HIx 1)) (q : PosShare TreeShare)
    (tbl : Buf (Elt F) ((V d (cV L) (jV L)).loc main_arg2_scv)) (ids : Buf (Elt F) ((V d (cV L) (jV L)).loc main_arg0_scv))
    (g : Buf (Elt F) ((V d (cV L) (jV L)).loc main_v0_scv))
    (fs : Buf (Elt F) ((V d (cV L) (jV L)).loc cc0_scoped0)) (fr : Buf (Elt F) ((V d (cV L) (jV L)).loc cc0_scoped2))
    (hids : ∀ j, (ids j).toNat < 100000) :
    (iprop(Transfers.MayWaits (V d (cV L) (jV L)) (default : HIx 1) O
        ∗ ((tV).view.loc (V d (cV L) (jV L)) ↦{q} tbl)
        ∗ ((idB0 L).view.loc (V d (cV L) (jV L)) ↦[(idB0 L).view.set]{fullShare} ids)
        ∗ ((idB1 L).view.loc (V d (cV L) (jV L)) ↦[(idB1 L).view.set]{fullShare} ids)
        ∗ ((rowB0 L).view.loc (V d (cV L) (jV L)) ↦[(rowB0 L).view.set]{fullShare} g)
        ∗ ((rowB1 L).view.loc (V d (cV L) (jV L)) ↦[(rowB1 L).view.set]{fullShare} g)
        ∗ ((idS0).view.loc (V d (cV L) (jV L)) ↦[(idS0).view.set]{fullShare} fs)
        ∗ ((idS1).view.loc (V d (cV L) (jV L)) ↦[(idS1).view.set]{fullShare} fs)
        ∗ ((rowS0).view.loc (V d (cV L) (jV L)) ↦[(rowS0).view.set]{fullShare} fr)
        ∗ ((rowS1).view.loc (V d (cV L) (jV L)) ↦[(rowS1).view.set]{fullShare} fr)
        ∗ semVal (V d (cV L) (jV L), .dma (in0).sem) 0
        ∗ semVal (V d (cV L) (jV L), .dma (in1).sem) 0
        ∗ semVal (V d (cV L) (jV L), .dma (ou0).sem) 0
        ∗ semVal (V d (cV L) (jV L), .dma (ou1).sem) 0
        ∗ semVal (V d (cV L) (jV L), .dma (cc0_scoped4).sem) 0
        ∗ owes (V d (cV L) (jV L)) O W) : sProp 𝕄)
      ⊢ wp frame (wpE (defs₀ (F := F)) 𝒱₀ (V d (cV L) (jV L)) none) Set.univ
          (cc0_gk L tV (Memref.isWhole_whole _) nV (Memref.isWhole_whole _) gV (Memref.isWhole_whole _)
            sV (Memref.isWhole_whole _) cc0_scoped1 rV (Memref.isWhole_whole _) cc0_scoped3 cc0_scoped4)
          fun _ => iprop(((tV).view.loc (V d (cV L) (jV L)) ↦{q} tbl)
            ∗ ((idB0 L).view.loc (V d (cV L) (jV L)) ↦[(idB0 L).view.set]{fullShare} ids)
            ∗ ((idB1 L).view.loc (V d (cV L) (jV L)) ↦[(idB1 L).view.set]{fullShare} ids)
            ∗ ((rowB0 L).view.loc (V d (cV L) (jV L)) ↦[(rowB0 L).view.set]{fullShare} (gat tbl ids : Buf (Elt F) (gLoc d)))
            ∗ ((rowB1 L).view.loc (V d (cV L) (jV L)) ↦[(rowB1 L).view.set]{fullShare} (gat tbl ids : Buf (Elt F) (gLoc d)))
            ∗ (∃ f, (idS0).view.loc (V d (cV L) (jV L)) ↦[(idS0).view.set]{fullShare} f)
            ∗ (∃ f, (idS1).view.loc (V d (cV L) (jV L)) ↦[(idS1).view.set]{fullShare} f)
            ∗ (∃ f, (rowS0).view.loc (V d (cV L) (jV L)) ↦[(rowS0).view.set]{fullShare} f)
            ∗ (∃ f, (rowS1).view.loc (V d (cV L) (jV L)) ↦[(rowS1).view.set]{fullShare} f)
            ∗ semVal (V d (cV L) (jV L), .dma (in0).sem) 0
            ∗ semVal (V d (cV L) (jV L), .dma (in1).sem) 0
            ∗ semVal (V d (cV L) (jV L), .dma (ou0).sem) 0
            ∗ semVal (V d (cV L) (jV L), .dma (ou1).sem) 0
            ∗ semVal (V d (cV L) (jV L), .dma (cc0_scoped4).sem) 0
            ∗ ∃ W', ⌜∀ p ∈ W', p ∈ W ∨ p.2 = none⌝ ∗ owes (V d (cV L) (jV L)) O W') := by
  rw [cc0_gk_eq_skeleton]; unfold cc0_gk_skel
  iintro ⟨#Hmw, Ht, Hi0, Hi1, Hg0, Hg1, Hs0, Hs1, Hr0, Hr1, Hin0, Hin1, Hou0, Hou1, Hga, HO⟩
  sl_exec
  simp (config := { iota := false, proj := false, eta := false, zeta := false }) only [m2, m5, m8a, m8b, m13a, m13b, m16, m19, m1, m4, m7a, m7b, m11a, m11b, m10a, m10b, m12a, m12b, m15, m18, m21, s3, s6, s9a, s9b, s14a, s14b, s17, s20]
  sl_exec
  have c10 := cond1_0 L
  have c11 := cond1_1 L
  have c20 := cond2_0 L
  have c21 := cond2_1 L
  have c50 := cond5_0 L
  have c51 := cond5_1 L
  have c70 := cond7_0 L
  have c71 := cond7_1 L
  have k10 := chk1_0 L
  have k11 := chk1_1 L
  have k20 := chk2_0
  have k21 := chk2_1
  have k30 := chk3_0
  have k31 := chk3_1
  have k41 := chk4_1
  have k50 := chk5_0 L
  sl_unroll trips_two
  sl_exec
  simp (config := { iota := false, proj := false, eta := false, zeta := false }) only [m2, m5, m8a, m8b, m13a, m13b, m16, m19, m1, m4, m7a, m7b, m11a, m11b, m10a, m10b, m12a, m12b, m15, m18, m21, s3, s6, s9a, s9b, s14a, s14b, s17, s20]
  sl_exec
  have hin0 : ∀ x, ((lst0).view.read (Elt F) ((idS0).view.writes (Elt F) fs [⟨Rect.whole S1x128, tile_core.sl.dma0 d L ids⟩]) x).toNat
      < S100000x128.size (gathers_S100000x128_S128x128).axis := by
    intro x
    rw [lst0_read d L]; exact hids _
  ihave Hts := (pointsTo_split_subset (q := q) (f := tbl) (S := Finset.univ) (Finset.subset_univ (tabV).view.set)).1 $$ Ht
  icases Hts with ⟨Hts, Htr⟩
  ihave Hl0 := (Entails.of_eq (show ((idS0).view.loc (V d (cV L) (jV L)) ↦[(idS0).view.set]{fullShare} _ : sProp 𝕄)
    = (lst0).view.loc (V d (cV L) (jV L)) ↦[(lst0).view.set]{fullShare} _ by rw [set_lst0])) $$ Hs0
  have hN0 : ∀ h : S100000x128.Gathers 0 S128x128, ∑ j, ((rowS0).slice (S128x128.rowRect h.axis' j) (S128x128.stride_rowRect h.axis' j)).view.dmaCredit
      = 524288 := by decide +kernel
  iapply (SparseCore.wp_indirectGatherLocal countersEmb 𝒱₀ (V d (cV L) (jV L)) none (hg := gathers_S100000x128_S128x128) (default : HIx 1)
      524288 (hN0 _) (by decide) hin0) $$ [Hts Hr0 Hl0 Hga]
  · isplitl [Hts]; · iexact Hts
    isplitl [Hr0]; · iexact Hr0
    isplitl [Hl0]; · iexact Hl0
    iexact Hga
  iintro Hfl
  sl_exec
  iapply (Transfers.wp_waitLocalO countersEmb 𝒱₀ (V d (cV L) (jV L)) none (srcw := tabV) (dstw := rowS0) (hsrc := View.wordExact_bits rfl)
    (hdst := (View.wordExact_bits rfl).reshape _ _) (default : HIx 1) (N := 524288) (by decide +kernel)) $$ [Hfl HO]
  · isplitl [Hfl]; · iexact Hfl
    isplitl [HO]; · iexact HO
    iapply (Transfers.MayWaits.elim (SemLoc.dma cc0_scoped4.sem)) $$ Hmw
  iintro ⟨⟨Hr0, Hts, Hl0⟩, Hga, HO⟩
  ihave Ht := (pointsTo_split_subset (q := q) (f := tbl) (S := Finset.univ) (Finset.subset_univ (tabV).view.set)).2 $$ [Hts Htr]; · isplitl [Hts] <;> iassumption
  ihave Hs0 := (Entails.of_eq (show ((lst0).view.loc (V d (cV L) (jV L)) ↦[(lst0).view.set]{fullShare} _ : sProp 𝕄)
    = (idS0).view.loc (V d (cV L) (jV L)) ↦[(idS0).view.set]{fullShare} _ by rw [set_lst0])) $$ Hl0
  sl_exec
  simp (config := { iota := false, proj := false, eta := false, zeta := false }) only [m2, m5, m8a, m8b, m13a, m13b, m16, m19, m1, m4, m7a, m7b, m11a, m11b, m10a, m10b, m12a, m12b, m15, m18, m21, s3, s6, s9a, s9b, s14a, s14b, s17, s20]
  sl_exec
  have e175 : ∀ L : grid0.Coords, tile_core.sl.v175_r0 L = 2#32 := by decide +kernel
  have e258 : ∀ L : grid0.Coords, tile_core.sl.v258_r0 L = 1#32 := by decide +kernel
  have e236 : ∀ L : grid0.Coords, tile_core.sl.v236_r0 L = 1#32 := by decide +kernel
  have e252 : ∀ L : grid0.Coords, tile_core.sl.v252_r0 L = 0#32 := by decide +kernel
  replace e175 := e175 L
  replace e258 := e258 L
  replace e236 := e236 L
  replace e252 := e252 L
  generalize tile_core.sl.v175_r0 L = x175 at e175 ⊢
  generalize tile_core.sl.v258_r0 L = x258 at e258 ⊢
  generalize tile_core.sl.v236_r0 L = x236 at e236 ⊢
  generalize tile_core.sl.v252_r0 L = x252 at e252 ⊢
  subst e175 e258 e236 e252
  sl_exec
  simp (config := { iota := false, proj := false, eta := false, zeta := false }) only [m2, m5, m8a, m8b, m13a, m13b, m16, m19, m1, m4, m7a, m7b, m11a, m11b, m10a, m10b, m12a, m12b, m15, m18, m21, s3, s6, s9a, s9b, s14a, s14b, s17, s20]
  have hin1 : ∀ x, ((lst1).view.read (Elt F) ((idS1).view.writes (Elt F) fs [⟨Rect.whole S1x128, tile_core.sl.dma0_1 d L ids⟩]) x).toNat
      < S100000x128.size (gathers_S100000x128_S128x128).axis := by
    intro x
    rw [lst1_read d L]; exact hids _
  ihave Hts := (pointsTo_split_subset (q := q) (f := tbl) (S := Finset.univ) (Finset.subset_univ (tabV).view.set)).1 $$ Ht
  icases Hts with ⟨Hts, Htr⟩
  ihave Hl1 := (Entails.of_eq (show ((idS1).view.loc (V d (cV L) (jV L)) ↦[(idS1).view.set]{fullShare} _ : sProp 𝕄)
    = (lst1).view.loc (V d (cV L) (jV L)) ↦[(lst1).view.set]{fullShare} _ by rw [set_lst1])) $$ Hs1
  have hN1 : ∀ h : S100000x128.Gathers 0 S128x128, ∑ j, ((rowS1).slice (S128x128.rowRect h.axis' j) (S128x128.stride_rowRect h.axis' j)).view.dmaCredit
      = 524288 := by decide +kernel
  iapply (SparseCore.wp_indirectGatherLocal countersEmb 𝒱₀ (V d (cV L) (jV L)) none (hg := gathers_S100000x128_S128x128) (default : HIx 1)
      524288 (hN1 _) (by decide) hin1) $$ [Hts Hr1 Hl1 Hga]
  · isplitl [Hts]; · iexact Hts
    isplitl [Hr1]; · iexact Hr1
    isplitl [Hl1]; · iexact Hl1
    iexact Hga
  iintro Hfl
  sl_exec
  iapply (Transfers.wp_waitLocalO countersEmb 𝒱₀ (V d (cV L) (jV L)) none (srcw := tabV) (dstw := rowS1) (hsrc := View.wordExact_bits rfl)
    (hdst := (View.wordExact_bits rfl).reshape _ _) (default : HIx 1) (N := 524288) (by decide +kernel)) $$ [Hfl HO]
  · isplitl [Hfl]; · iexact Hfl
    isplitl [HO]; · iexact HO
    iapply (Transfers.MayWaits.elim (SemLoc.dma cc0_scoped4.sem)) $$ Hmw
  iintro ⟨⟨Hr1, Hts, Hl1⟩, Hga, HO⟩
  ihave Ht := (pointsTo_split_subset (q := q) (f := tbl) (S := Finset.univ) (Finset.subset_univ (tabV).view.set)).2 $$ [Hts Htr]; · isplitl [Hts] <;> iassumption
  ihave Hs1 := (Entails.of_eq (show ((lst1).view.loc (V d (cV L) (jV L)) ↦[(lst1).view.set]{fullShare} _ : sProp 𝕄)
    = (idS1).view.loc (V d (cV L) (jV L)) ↦[(idS1).view.set]{fullShare} _ by rw [set_lst1])) $$ Hl1
  sl_exec
  simp (config := { iota := false, proj := false, eta := false, zeta := false }) only [m2, m5, m8a, m8b, m13a, m13b, m16, m19, m1, m4, m7a, m7b, m11a, m11b, m10a, m10b, m12a, m12b, m15, m18, m21, s3, s6, s9a, s9b, s14a, s14b, s17, s20]
  sl_exec
  have e252' : ∀ L : grid0.Coords, tile_core.sl.v252_r0_1 L = 1#32 := by decide +kernel
  replace e252' := e252' L
  generalize tile_core.sl.v252_r0_1 L = x252' at e252' ⊢
  subst e252'
  sl_exec
  ihave Hg0' := (Entails.of_eq (pointsTo_congr (rowB0_val d L tbl ids g fs fr _ hin0))) $$ Hg0
  ihave Hg1' := (Entails.of_eq (pointsTo_congr (rowB1_val d L tbl ids g fs fr _ hin1))) $$ Hg1
  sl_step
  isplitl [Ht]; · iexact Ht
  isplitl [Hi0]; · iexact Hi0
  isplitl [Hi1]; · iexact Hi1
  isplitl [Hg0']; · iexact Hg0'
  isplitl [Hg1']; · iexact Hg1'
  isplitl [Hs0]; · iexists _; iexact Hs0
  isplitl [Hs1]; · iexists _; iexact Hs1
  isplitl [Hr0]; · iexists _; iexact Hr0
  isplitl [Hr1]; · iexists _; iexact Hr1
  isplitl [Hin0]; · iexact Hin0
  isplitl [Hin1]; · iexact Hin1
  isplitl [Hou0]; · iexact Hou0
  isplitl [Hou1]; · iexact Hou1
  isplitl [Hga]; · iexact Hga
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Gather

end
-- ==== Proof.Sc.lean ====
module
public import proofs.«01_k».proof.Proof.Tile

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

/-! ## Which elements the pieces hold -/

theorem mem_idB0 (L : grid0.Coords) (y : S4x2048.Idx) : y ∈ (idB0 L).view.set ↔ 16 * (y 0).val + (y 1).val / 128 = blk L 0 := by
  rw [show (idB0 L).view.set = (Rect.unit (s := S4x2048) (idOff L 0) S1x128.size (idOff_inb0 L)).set from View.set_slice_whole _ _, Rect.mem_set_unit]
  have h1 : (y 1).val < 2048 := (y 1).isLt
  constructor
  · intro h
    have a := h 0; have b := h 1
    change blk L 0 / 16 ≤ (y 0).val ∧ (y 0).val < blk L 0 / 16 + 1 at a
    change 128 * (blk L 0 % 16) ≤ (y 1).val ∧ (y 1).val < 128 * (blk L 0 % 16) + 128 at b
    omega
  · intro h a
    match a with
    | ⟨0, _⟩ => show blk L 0 / 16 ≤ (y 0).val ∧ (y 0).val < blk L 0 / 16 + 1; omega
    | ⟨1, _⟩ => show 128 * (blk L 0 % 16) ≤ (y 1).val ∧ (y 1).val < 128 * (blk L 0 % 16) + 128; omega
theorem mem_idB1 (L : grid0.Coords) (y : S4x2048.Idx) : y ∈ (idB1 L).view.set ↔ 16 * (y 0).val + (y 1).val / 128 = blk L 1 := by
  rw [show (idB1 L).view.set = (Rect.unit (s := S4x2048) (idOff L 1) S1x128.size (idOff_inb1 L)).set from View.set_slice_whole _ _, Rect.mem_set_unit]
  have h1 : (y 1).val < 2048 := (y 1).isLt
  constructor
  · intro h
    have a := h 0; have b := h 1
    change blk L 1 / 16 ≤ (y 0).val ∧ (y 0).val < blk L 1 / 16 + 1 at a
    change 128 * (blk L 1 % 16) ≤ (y 1).val ∧ (y 1).val < 128 * (blk L 1 % 16) + 128 at b
    omega
  · intro h a
    match a with
    | ⟨0, _⟩ => show blk L 1 / 16 ≤ (y 0).val ∧ (y 0).val < blk L 1 / 16 + 1; omega
    | ⟨1, _⟩ => show 128 * (blk L 1 % 16) ≤ (y 1).val ∧ (y 1).val < 128 * (blk L 1 % 16) + 128; omega
theorem mem_rowB0 (L : grid0.Coords) (y : S8192x128.Idx) : y ∈ (rowB0 L).view.set ↔ (y 0).val / 128 = blk L 0 := by
  rw [show (rowB0 L).view.set = (Rect.unit (s := S8192x128) (rowOff L 0) S128x128.size (rowOff_inb0 L)).set from View.set_slice_whole _ _, Rect.mem_set_unit]
  have h1 : (y 1).val < 128 := (y 1).isLt
  constructor
  · intro h
    have a := h 0
    change 128 * blk L 0 ≤ (y 0).val ∧ (y 0).val < 128 * blk L 0 + 128 at a
    omega
  · intro h a
    match a with
    | ⟨0, _⟩ => show 128 * blk L 0 ≤ (y 0).val ∧ (y 0).val < 128 * blk L 0 + 128; omega
    | ⟨1, _⟩ => show 0 ≤ (y 1).val ∧ (y 1).val < 0 + 128; omega
theorem mem_rowB1 (L : grid0.Coords) (y : S8192x128.Idx) : y ∈ (rowB1 L).view.set ↔ (y 0).val / 128 = blk L 1 := by
  rw [show (rowB1 L).view.set = (Rect.unit (s := S8192x128) (rowOff L 1) S128x128.size (rowOff_inb1 L)).set from View.set_slice_whole _ _, Rect.mem_set_unit]
  have h1 : (y 1).val < 128 := (y 1).isLt
  constructor
  · intro h
    have a := h 0
    change 128 * blk L 1 ≤ (y 0).val ∧ (y 0).val < 128 * blk L 1 + 128 at a
    omega
  · intro h a
    match a with
    | ⟨0, _⟩ => show 128 * blk L 1 ≤ (y 0).val ∧ (y 0).val < 128 * blk L 1 + 128; omega
    | ⟨1, _⟩ => show 0 ≤ (y 1).val ∧ (y 1).val < 0 + 128; omega

theorem mem_idS0 (y : S2x1x128.Idx) : y ∈ (idS0).view.set ↔ (y 0).val = 0 := by
  rw [show (idS0).view.set = (Rect.unit (s := S2x1x128) ![0, 0, 0] S1x1x128.size slot_inb0).set from
    (View.set_reshape _ _).trans (View.set_slice_whole _ _), Rect.mem_set_unit]
  have h1 : (y 1).val < 1 := (y 1).isLt
  have h2 : (y 2).val < 128 := (y 2).isLt
  constructor
  · intro h
    have a := h 0
    change 0 ≤ (y 0).val ∧ (y 0).val < 0 + 1 at a
    omega
  · intro h a
    match a with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 128; omega
theorem mem_idS1 (y : S2x1x128.Idx) : y ∈ (idS1).view.set ↔ (y 0).val = 1 := by
  rw [show (idS1).view.set = (Rect.unit (s := S2x1x128) ![1, 0, 0] S1x1x128.size slot_inb1).set from
    (View.set_reshape _ _).trans (View.set_slice_whole _ _), Rect.mem_set_unit]
  have h1 : (y 1).val < 1 := (y 1).isLt
  have h2 : (y 2).val < 128 := (y 2).isLt
  constructor
  · intro h
    have a := h 0
    change 1 ≤ (y 0).val ∧ (y 0).val < 1 + 1 at a
    omega
  · intro h a
    match a with
    | ⟨0, _⟩ => show 1 ≤ (y 0).val ∧ (y 0).val < 1 + 1; omega
    | ⟨1, _⟩ => show 0 ≤ (y 1).val ∧ (y 1).val < 0 + 1; omega
    | ⟨2, _⟩ => show 0 ≤ (y 2).val ∧ (y 2).val < 0 + 128; omega
theorem mem_rowS0 (y : S2x128x128.Idx) : y ∈ (rowS0).view.set ↔ (y 0).val = 0 := by
  rw [show (rowS0).view.set = (Rect.unit (s := S2x128x128) ![0, 0, 0] S1x128x128.size rslot_inb0).set from
    (View.set_reshape _ _).trans (View.set_slice_whole _ _), Rect.mem_set_unit]
  have h1 : (y 1).val < 128 := (y 1).isLt
  have h2 : (y 2).val < 128 := (y 2).isLt
  constructor
  · intro h
    have a := h 0
    change 0 ≤ (y 0).val ∧ (y 0).val < 0 + 1 at a
    omega
  · intro h a
    match a with
    | ⟨0, _⟩ => show 0 ≤ (y 0).val ∧ (y 0).val < 0 + 1; omega
    | ⟨1, _⟩ => show 0 ≤ (y 1).val ∧ (y 1).val < 0 + 128; omega
    | ⟨2, _⟩ => show 0 ≤ (y 2).val ∧ (y 2).val < 0 + 128; omega
theorem mem_rowS1 (y : S2x128x128.Idx) : y ∈ (rowS1).view.set ↔ (y 0).val = 1 := by
  rw [show (rowS1).view.set = (Rect.unit (s := S2x128x128) ![1, 0, 0] S1x128x128.size rslot_inb1).set from
    (View.set_reshape _ _).trans (View.set_slice_whole _ _), Rect.mem_set_unit]
  have h1 : (y 1).val < 128 := (y 1).isLt
  have h2 : (y 2).val < 128 := (y 2).isLt
  constructor
  · intro h
    have a := h 0
    change 1 ≤ (y 0).val ∧ (y 0).val < 1 + 1 at a
    omega
  · intro h a
    match a with
    | ⟨0, _⟩ => show 1 ≤ (y 0).val ∧ (y 0).val < 1 + 1; omega
    | ⟨1, _⟩ => show 0 ≤ (y 1).val ∧ (y 1).val < 0 + 128; omega
    | ⟨2, _⟩ => show 0 ≤ (y 2).val ∧ (y 2).val < 0 + 128; omega

theorem idS_disj : Disjoint (idS0).view.set (idS1).view.set :=
  Finset.disjoint_left.mpr fun y h0 h1 => by have a := (mem_idS0 y).mp h0; have b := (mem_idS1 y).mp h1; omega
theorem rowS_disj : Disjoint (rowS0).view.set (rowS1).view.set :=
  Finset.disjoint_left.mpr fun y h0 h1 => by have a := (mem_rowS0 y).mp h0; have b := (mem_rowS1 y).mp h1; omega
theorem idS_cover : (idS0).view.set ∪ (idS1).view.set = Finset.univ := by
  ext y
  have h : ((y : S2x1x128.Idx) 0).val < 2 := ((y : S2x1x128.Idx) 0).isLt
  have a := mem_idS0 y; have b := mem_idS1 y
  simp only [Finset.mem_union, Finset.mem_univ, iff_true]
  rcases (by omega : ((y : S2x1x128.Idx) 0).val = 0 ∨ ((y : S2x1x128.Idx) 0).val = 1) with e | e
  · exact .inl (a.mpr e)
  · exact .inr (b.mpr e)
theorem rowS_cover : (rowS0).view.set ∪ (rowS1).view.set = Finset.univ := by
  ext y
  have h : ((y : S2x128x128.Idx) 0).val < 2 := ((y : S2x128x128.Idx) 0).isLt
  have a := mem_rowS0 y; have b := mem_rowS1 y
  simp only [Finset.mem_union, Finset.mem_univ, iff_true]
  rcases (by omega : ((y : S2x128x128.Idx) 0).val = 0 ∨ ((y : S2x128x128.Idx) 0).val = 1) with e | e
  · exact .inl (a.mpr e)
  · exact .inr (b.mpr e)

/-- A buffer held whole is its two halves. -/
theorem pts_halves {ℓ : Loc nD τ sig} {I J : Finset (Idx ℓ)} (hd : Disjoint I J) (hc : I ∪ J = Finset.univ) (f : Buf (Elt F) ℓ) :
    (ℓ ↦{fullShare} f : sProp 𝕄) ⊢ iprop((ℓ ↦[I]{fullShare} f) ∗ ℓ ↦[J]{fullShare} f) := by
  rw [← hc]; exact (pointsTo_union hd).1

/-- Two halves of a buffer, each at some contents, are the buffer at some contents. -/
theorem pts_unhalve {ℓ : Loc nD τ sig} {I J : Finset (Idx ℓ)} (hd : Disjoint I J) (hc : I ∪ J = Finset.univ) :
    (iprop((∃ f, ℓ ↦[I]{fullShare} f) ∗ ∃ f, ℓ ↦[J]{fullShare} f) : sProp 𝕄) ⊢ iprop(∃ f : Buf (Elt F) ℓ, ℓ ↦{fullShare} f) := by
  iintro ⟨⟨%f, Hf⟩, %g, Hg⟩
  iexists (J.piecewise g f)
  rw [← hc]
  iapply (pointsTo_join hd)
  isplitl [Hf] <;> iassumption

/-! ## What the handshakes carry -/

/-- The task of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The number of a tile among the 32. -/
def tileNo (L : grid0.Coords) : ℕ := 16 * (L 0).val + (L 1).val

/-- A tile's share of the table. -/
abbrev tq (L : grid0.Coords) : PosShare TreeShare := Transfers.shareTokN fullShare (tileNo L)

variable (m : (ℓ : Loc nD τ sig) → Buf (Elt F) ℓ) (ρ : Dev nD → PrngReg)

/-- The gathered array of device `d`. -/
abbrev gOf (d : Dev nD) : Buf (Elt F) (gLoc d) := gat (m (tLoc d)) (m (nLoc d))

/-- What a tile's task is handed: a share of the table, its two blocks of indices, its two blocks of output rows at `g`. -/
abbrev goP (d : Dev nD) (L : grid0.Coords) (g : Buf (Elt F) (gLoc d)) : sProp 𝕄 :=
  iprop((tLoc d ↦{tq L} m (tLoc d))
    ∗ ((nLoc d ↦[(idB0 L).view.set]{fullShare} m (nLoc d)) ∗ (nLoc d ↦[(idB1 L).view.set]{fullShare} m (nLoc d)))
    ∗ ((gLoc d ↦[(rowB0 L).view.set]{fullShare} g) ∗ (gLoc d ↦[(rowB1 L).view.set]{fullShare} g)))

abbrev LL (c : Fin ((K (F := F)).nCore 0)) (i : Fin ((K (F := F)).nSub 0)) : grid0.Coords := coordsV c i

/-- The gather's call takes every tile's pieces and gives them back, the output rows gathered. -/
def P : (K (F := F)).Pay (nD := nD) (Val := Elt F) (Name := ℕ) (U := UU) where
  st := fun q d c => match q with | 0 => bigSep Finset.univ fun i => goP m d (LL c i) (m (gLoc d))
  dn := fun q d c => match q with | 0 => bigSep Finset.univ fun i => goP m d (LL c i) (gOf m d)
  go := fun q d c i => match q with | 0 => goP m d (LL c i) (m (gLoc d))
  td := fun q d c i => match q with | 0 => goP m d (LL c i) (gOf m d)
  x := fun _ _ => iprop(emp)

instance P_storable : (P (F := F) m).IsStorable where
  st q d c := match q with
    | 0 => (inferInstance : BI.Storable (upEmb : UEmb _ 𝕄) (bigSep Finset.univ fun i => goP m d (LL c i) (m (gLoc d))))
  dn q d c := match q with
    | 0 => (inferInstance : BI.Storable (upEmb : UEmb _ 𝕄) (bigSep Finset.univ fun i => goP m d (LL c i) (gOf m d)))
  go q d c i := match q with
    | 0 => (inferInstance : BI.Storable (upEmb : UEmb _ 𝕄) (goP m d (LL c i) (m (gLoc d))))
  td q d c i := match q with
    | 0 => (inferInstance : BI.Storable (upEmb : UEmb _ 𝕄) (goP m d (LL c i) (gOf m d)))

/-- What the run asks of the launch memory: every index names a row of the table. -/
def PreOK : Prop := ∀ (d : Dev nD) (j : S4x2048.Idx), (m (nLoc d) j).toNat < 100000

/-! ## The task -/

section Task

variable (d : Dev nD) (L : grid0.Coords)

abbrev cA (d : Dev nD) (L : grid0.Coords) : GSem nD τ sig := (V d (cV L) (jV L), .dma (in0).sem)
abbrev cB (d : Dev nD) (L : grid0.Coords) : GSem nD τ sig := (V d (cV L) (jV L), .dma (in1).sem)
abbrev cC (d : Dev nD) (L : grid0.Coords) : GSem nD τ sig := (V d (cV L) (jV L), .dma (ou0).sem)
abbrev cD (d : Dev nD) (L : grid0.Coords) : GSem nD τ sig := (V d (cV L) (jV L), .dma (ou1).sem)
abbrev cE (d : Dev nD) (L : grid0.Coords) : GSem nD τ sig := (V d (cV L) (jV L), .dma (cc0_scoped4).sem)

theorem cell_ne {s t : SemLoc sig} (h : s ≠ t) : ((V d (cV L) (jV L), s) : GSem nD τ sig) ≠ (V d (cV L) (jV L), t) :=
  fun e => h (congrArg Prod.snd e)

theorem own_cell {s : SemLoc sig} (h : s.isScoped .scVector = true) : ((V d (cV L) (jV L), s) : GSem nD τ sig) ∈ ownCells (V d (cV L) (jV L)) :=
  mem_ownCells.mpr ⟨rfl, h⟩

theorem ownSems0_V :
    (ownSems0 (V d (cV L) (jV L)) : sProp 𝕄)
      = iprop(semVal (cA d L) 0 ∗ semVal (cB d L) 0 ∗ semVal (cC d L) 0 ∗ semVal (cD d L) 0 ∗ semVal (cE d L) 0
          ∗ bigSep ((((((ownCells (V d (cV L) (jV L))).erase (cA d L)).erase (cB d L)).erase (cC d L)).erase (cD d L)).erase (cE d L)) fun g => semVal g 0) := by
  have eA := own_cell d L (s := .dma (in0).sem) (by decide)
  have eB := own_cell d L (s := .dma (in1).sem) (by decide)
  have eC := own_cell d L (s := .dma (ou0).sem) (by decide)
  have eD := own_cell d L (s := .dma (ou1).sem) (by decide)
  have eE := own_cell d L (s := .dma (cc0_scoped4).sem) (by decide)
  have hAB := cell_ne d L (s := .dma (in1).sem) (t := .dma (in0).sem) (by decide)
  have hAC := cell_ne d L (s := .dma (ou0).sem) (t := .dma (in0).sem) (by decide)
  have hAD := cell_ne d L (s := .dma (ou1).sem) (t := .dma (in0).sem) (by decide)
  have hAE := cell_ne d L (s := .dma (cc0_scoped4).sem) (t := .dma (in0).sem) (by decide)
  have hBC := cell_ne d L (s := .dma (ou0).sem) (t := .dma (in1).sem) (by decide)
  have hBD := cell_ne d L (s := .dma (ou1).sem) (t := .dma (in1).sem) (by decide)
  have hBE := cell_ne d L (s := .dma (cc0_scoped4).sem) (t := .dma (in1).sem) (by decide)
  have hCD := cell_ne d L (s := .dma (ou1).sem) (t := .dma (ou0).sem) (by decide)
  have hCE := cell_ne d L (s := .dma (cc0_scoped4).sem) (t := .dma (ou0).sem) (by decide)
  have hDE := cell_ne d L (s := .dma (cc0_scoped4).sem) (t := .dma (ou1).sem) (by decide)
  unfold SparseCore.Cfg.ownSems0
  rw [SparseCore.bigSep_erase' eA,
    SparseCore.bigSep_erase' (i := cB d L) (Finset.mem_erase.mpr ⟨hAB, eB⟩),
    SparseCore.bigSep_erase' (i := cC d L) (Finset.mem_erase.mpr ⟨hBC, Finset.mem_erase.mpr ⟨hAC, eC⟩⟩),
    SparseCore.bigSep_erase' (i := cD d L) (Finset.mem_erase.mpr ⟨hCD, Finset.mem_erase.mpr ⟨hBD, Finset.mem_erase.mpr ⟨hAD, eD⟩⟩⟩),
    SparseCore.bigSep_erase' (i := cE d L) (Finset.mem_erase.mpr ⟨hDE, Finset.mem_erase.mpr ⟨hCE, Finset.mem_erase.mpr ⟨hBE, Finset.mem_erase.mpr ⟨hAE, eE⟩⟩⟩⟩)]

theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

variable [FloatOps F]

/-- The task of tile `L`: handed its pieces and its scratch, it gives the pieces back with its output rows gathered. -/
theorem tile_body (hF : (K (F := F)).Facts) (hpre : PreOK m) (O : CellTallies nD τ sig (HIx 1)) (W : Waits sig (HIx 1)) (hO : ∀ g, O g none = 0) :
    (iprop(levAts (K (F := F)).L (K (F := F)).lev ∗ emp ∗ goP m d L (m (gLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gk L tV (Memref.isWhole_whole _) nV (Memref.isWhole_whole _) gV (Memref.isWhole_whole _)
            sV (Memref.isWhole_whole _) cc0_scoped1 rV (Memref.isWhole_whole _) cc0_scoped3 cc0_scoped4)
          fun _ => iprop(goP m d L (gOf m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Ht, ⟨Hi0, Hi1⟩, Hg0, Hg1⟩, ⟨⟨%fs, Hs⟩, ⟨%fr, Hr⟩, Hbufs⟩, ⟨HA, HB, HC, HD, HE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (pts_halves idS_disj idS_cover fs) $$ Hs
  icases Hs' with ⟨Hs0, Hs1⟩
  ihave Hr' := (pts_halves rowS_disj rowS_cover fr) $$ Hr
  icases Hr' with ⟨Hr0, Hr1⟩
  iapply (wp_wand_r frame _ _)
  isplitl [Ht Hi0 Hi1 Hg0 Hg1 Hs0 Hs1 Hr0 Hr1 HA HB HC HD HE HO]
  · iapply (tile_core d L O W (tq L) (m (tLoc d)) (m (nLoc d)) (m (gLoc d)) fs fr (hpre d))
    isplitl []; · iexact Hmw
    isplitl [Ht]; · iexact Ht
    isplitl [Hi0]; · iexact Hi0
    isplitl [Hi1]; · iexact Hi1
    isplitl [Hg0]; · iexact Hg0
    isplitl [Hg1]; · iexact Hg1
    isplitl [Hs0]; · iexact Hs0
    isplitl [Hs1]; · iexact Hs1
    isplitl [Hr0]; · iexact Hr0
    isplitl [Hr1]; · iexact Hr1
    isplitl [HA]; · iexact HA
    isplitl [HB]; · iexact HB
    isplitl [HC]; · iexact HC
    isplitl [HD]; · iexact HD
    isplitl [HE]; · iexact HE
    iexact HO
  iintro %_u ⟨Ht, Hi0, Hi1, Hg0, Hg1, Hs0, Hs1, Hr0, Hr1, HA, HB, HC, HD, HE, HO⟩
  isplitl [Ht Hi0 Hi1 Hg0 Hg1]
  · isplitl [Ht]; · iexact Ht
    isplitl [Hi0 Hi1]
    · isplitl [Hi0]; · iexact Hi0
      iexact Hi1
    isplitl [Hg0]; · iexact Hg0
    iexact Hg1
  isplitl [Hs0 Hs1 Hr0 Hr1 Hbufs]
  · isplitl [Hs0 Hs1]
    · iapply (pts_unhalve idS_disj idS_cover)
      isplitl [Hs0]; · iexact Hs0
      iexact Hs1
    isplitl [Hr0 Hr1]
    · iapply (pts_unhalve rowS_disj rowS_cover)
      isplitl [Hr0]; · iexact Hr0
      iexact Hr1
    iexact Hbufs
  isplitl [HA HB HC HD HE Hsems]
  · isplitl [HA]; · iexact HA
    isplitl [HB]; · iexact HB
    isplitl [HC]; · iexact HC
    isplitl [HD]; · iexact HD
    isplitl [HE]; · iexact HE
    iexact Hsems
  iexact HO

/-! ## The obligation -/

theorem defs₀_vector (c : Fin τ.nSC) (s : Fin τ.nSub) :
    defs₀ (F := F) (.scVector c s) 0 ()
      = SparseCore.onTile hcore0 hsub0 (fun c s => cc0_gk (coordsV c s)
          tV (Memref.isWhole_whole _) nV (Memref.isWhole_whole _) gV (Memref.isWhole_whole _)
          sV (Memref.isWhole_whole _) cc0_scoped1 rV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Task

variable [FloatOps F]

theorem vecSplit : (K (F := F)).VecSplit' (P m) 0 := by
  intro d c
  show (bigSep Finset.univ fun i => goP m d (LL c i) (m (gLoc d))) ⊢ |={Set.univ}=> iprop(
      (bigSep Finset.univ fun i => goP m d (LL c i) (m (gLoc d)))
      ∗ ((bigSep Finset.univ fun i => goP m d (LL c i) (gOf m d)) -∗ (bigSep Finset.univ fun i => goP m d (LL c i) (gOf m d))))
  iintro H; imodintro
  isplitl [H]; · iexact H
  iintro H; iexact H

/-! ## The operands split among the 32 tasks, and join -/

abbrev TL (p : Fin 2 × Fin 16) : grid0.Coords := coordsV p.1 p.2

omit [FloatOps F] in
theorem blk_TL (p : Fin 2 × Fin 16) (t : ℕ) : blk (TL p) t = 2 * (16 * p.1.val + p.2.val) + t := rfl

omit [FloatOps F] in
theorem pair_ext {p q : Fin 2 × Fin 16} (h : 16 * p.1.val + p.2.val = 16 * q.1.val + q.2.val) : p = q := by
  have a := p.2.isLt; have b := q.2.isLt
  exact Prod.ext (Fin.ext (by omega)) (Fin.ext (by omega))

omit [FloatOps F] in
theorem exists_pair {n : ℕ} (h : n < 64) : ∃ p : Fin 2 × Fin 16, n = 2 * (16 * p.1.val + p.2.val) ∨ n = 2 * (16 * p.1.val + p.2.val) + 1 :=
  ⟨(⟨n / 32, by omega⟩, ⟨n / 2 % 16, by omega⟩), by show n = 2 * (16 * (n / 32) + n / 2 % 16) ∨ n = 2 * (16 * (n / 32) + n / 2 % 16) + 1; omega⟩

omit [FloatOps F] in
theorem ids_split (d : Dev nD) (f : Buf (Elt F) (nLoc d)) :
    (nLoc d ↦{fullShare} f : sProp 𝕄)
      = bigSep Finset.univ fun p : Fin 2 × Fin 16 => iprop((nLoc d ↦[(idB0 (TL p)).view.set]{fullShare} f) ∗ (nLoc d ↦[(idB1 (TL p)).view.set]{fullShare} f)) := by
  have hd : ∀ p : Fin 2 × Fin 16, Disjoint (idB0 (TL p)).view.set (idB1 (TL p)).view.set := fun p =>
    Finset.disjoint_left.mpr fun y h0 h1 => by
      have a := (mem_idB0 (TL p) y).mp h0; have b := (mem_idB1 (TL p) y).mp h1
      rw [blk_TL] at a b; omega
  have hm : ∀ (p : Fin 2 × Fin 16) (y : S4x2048.Idx), y ∈ (idB0 (TL p)).view.set ∪ (idB1 (TL p)).view.set →
      16 * (y 0).val + (y 1).val / 128 = 2 * (16 * p.1.val + p.2.val) ∨ 16 * (y 0).val + (y 1).val / 128 = 2 * (16 * p.1.val + p.2.val) + 1 := by
    intro p y h
    rcases Finset.mem_union.mp h with h | h
    · exact .inl ((mem_idB0 (TL p) y).mp h)
    · exact .inr ((mem_idB1 (TL p) y).mp h)
  have hc : (Finset.univ : Finset (Fin 2 × Fin 16)).biUnion (fun p => (idB0 (TL p)).view.set ∪ (idB1 (TL p)).view.set) = (Finset.univ : Finset S4x2048.Idx) := by
    ext y
    simp only [Finset.mem_biUnion, Finset.mem_univ, true_and, iff_true]
    have h0 : (y 0).val < 4 := (y 0).isLt
    have h1 : (y 1).val < 2048 := (y 1).isLt
    obtain ⟨p, hp⟩ := exists_pair (n := 16 * (y 0).val + (y 1).val / 128) (by omega)
    exact ⟨p, Finset.mem_union.mpr (hp.imp (mem_idB0 (TL p) y).mpr (mem_idB1 (TL p) y).mpr)⟩
  refine (congrArg (fun I : Finset S4x2048.Idx => (nLoc d ↦[I]{fullShare} f : sProp 𝕄)) hc.symm).trans ?_
  refine (pointsTo_biUnion Finset.univ (ℓ := nLoc d) _ ?_).trans (bigSep_congr fun p _ => ?_)
  · intro p _ q _ hpq
    refine Finset.disjoint_left.mpr fun y h0 h1 => hpq (pair_ext ?_)
    have a := hm p y h0; have b := hm q y h1
    omega
  · exact BI.Entails.antisymm (pointsTo_union (hd p)).1 (pointsTo_union (hd p)).2

omit [FloatOps F] in
theorem rows_split (d : Dev nD) (f : Buf (Elt F) (gLoc d)) :
    (gLoc d ↦{fullShare} f : sProp 𝕄)
      = bigSep Finset.univ fun p : Fin 2 × Fin 16 => iprop((gLoc d ↦[(rowB0 (TL p)).view.set]{fullShare} f) ∗ (gLoc d ↦[(rowB1 (TL p)).view.set]{fullShare} f)) := by
  have hd : ∀ p : Fin 2 × Fin 16, Disjoint (rowB0 (TL p)).view.set (rowB1 (TL p)).view.set := fun p =>
    Finset.disjoint_left.mpr fun y h0 h1 => by
      have a := (mem_rowB0 (TL p) y).mp h0; have b := (mem_rowB1 (TL p) y).mp h1
      rw [blk_TL] at a b; omega
  have hm : ∀ (p : Fin 2 × Fin 16) (y : S8192x128.Idx), y ∈ (rowB0 (TL p)).view.set ∪ (rowB1 (TL p)).view.set →
      (y 0).val / 128 = 2 * (16 * p.1.val + p.2.val) ∨ (y 0).val / 128 = 2 * (16 * p.1.val + p.2.val) + 1 := by
    intro p y h
    rcases Finset.mem_union.mp h with h | h
    · exact .inl ((mem_rowB0 (TL p) y).mp h)
    · exact .inr ((mem_rowB1 (TL p) y).mp h)
  have hc : (Finset.univ : Finset (Fin 2 × Fin 16)).biUnion (fun p => (rowB0 (TL p)).view.set ∪ (rowB1 (TL p)).view.set) = (Finset.univ : Finset S8192x128.Idx) := by
    ext y
    simp only [Finset.mem_biUnion, Finset.mem_univ, true_and, iff_true]
    have h0 : (y 0).val < 8192 := (y 0).isLt
    obtain ⟨p, hp⟩ := exists_pair (n := (y 0).val / 128) (by omega)
    exact ⟨p, Finset.mem_union.mpr (hp.imp (mem_rowB0 (TL p) y).mpr (mem_rowB1 (TL p) y).mpr)⟩
  refine (congrArg (fun I : Finset S8192x128.Idx => (gLoc d ↦[I]{fullShare} f : sProp 𝕄)) hc.symm).trans ?_
  refine (pointsTo_biUnion Finset.univ (ℓ := gLoc d) _ ?_).trans (bigSep_congr fun p _ => ?_)
  · intro p _ q _ hpq
    refine Finset.disjoint_left.mpr fun y h0 h1 => hpq (pair_ext ?_)
    have a := hm p y h0; have b := hm q y h1
    omega
  · exact BI.Entails.antisymm (pointsTo_union (hd p)).1 (pointsTo_union (hd p)).2

omit [FloatOps F] in
theorem tab_split (d : Dev nD) (f : Buf (Elt F) (tLoc d)) :
    (tLoc d ↦{fullShare} f : sProp 𝕄)
      = iprop((tLoc d ↦{Transfers.shareDrop fullShare 32} f) ∗ bigSep Finset.univ fun p : Fin 2 × Fin 16 => tLoc d ↦{tq (TL p)} f) := by
  have h : (tLoc d ↦{fullShare} f : sProp 𝕄) ⊣⊢ iprop((tLoc d ↦{Transfers.shareDrop fullShare 32} f)
      ∗ bigSep Finset.univ fun i : Fin 32 => tLoc d ↦{Transfers.shareTok fullShare 32 i} f) := Transfers.pointsTo_toks fullShare 32
  have e : (bigSep Finset.univ fun i : Fin 32 => (tLoc d ↦{Transfers.shareTok fullShare 32 i} f : sProp 𝕄))
      = bigSep Finset.univ fun p : Fin 2 × Fin 16 => tLoc d ↦{tq (TL p)} f := by
    rw [bigSep_univ_equiv (finProdFinEquiv (m := 2) (n := 16))]
    refine bigSep_congr fun p _ => ?_
    have hn : (finProdFinEquiv p : Fin (2 * 16)).val = tileNo (TL p) := by
      show p.2.val + 16 * p.1.val = 16 * p.1.val + p.2.val; omega
    show (tLoc d ↦{Transfers.shareTokN fullShare (finProdFinEquiv p : Fin (2 * 16)).val} f : sProp 𝕄) = _
    rw [hn]
  rw [← e]
  exact BI.Entails.antisymm h.1 h.2

omit [FloatOps F] in
/-- The call's operands on the two SparseCores, from the three arrays held whole: a share of the table stays behind. -/
theorem calls_eq (d : Dev nD) (g : Buf (Elt F) (gLoc d)) :
    (iprop((tLoc d ↦{fullShare} m (tLoc d)) ∗ (nLoc d ↦{fullShare} m (nLoc d)) ∗ (gLoc d ↦{fullShare} g)) : sProp 𝕄)
      = iprop((tLoc d ↦{Transfers.shareDrop fullShare 32} m (tLoc d))
          ∗ bigSep Finset.univ fun c : Fin ((K (F := F)).nCore 0) => bigSep Finset.univ fun i : Fin ((K (F := F)).nSub 0) => goP m d (LL c i) g) := by
  rw [show (bigSep Finset.univ fun c : Fin ((K (F := F)).nCore 0) => bigSep Finset.univ fun i : Fin ((K (F := F)).nSub 0) => goP m d (LL c i) g)
      = bigSep Finset.univ fun p : Fin 2 × Fin 16 => goP m d (TL p) g from
    (bigSep_univ_prod (fun p : Fin 2 × Fin 16 => goP m d (TL p) g)).symm]
  rw [bigSep_sep', bigSep_sep', ← ids_split, ← rows_split, tab_split d (m (tLoc d))]
  exact BI.Entails.antisymm BI.sep_assoc BI.sep_assoc'

end Cert.KernelIdeal.Gather

end
-- ==== Proof.TcDefs.lean ====
module
public import proofs.«01_k».proof.Proof.Sc

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

variable [FloatOps F] (d : Dev nD)

/-! # The memrefs of the TensorCore call's rings, row blocks and semaphores -/

/-- A TensorCore memref's contents type. -/
abbrev Bf {sp : Space} {S : Shape} {e : EltTy} (M : Memref sig .tc sp S e) : Type := Buf (Elt F) (M.view.loc (T d : Thread nD τ))
/-- A buffer held whole. -/
abbrev pt {sp : Space} {S : Shape} {e : EltTy} (M : Memref sig .tc sp S e) (f : Bf (F := F) d M) : sProp 𝕄 :=
  M.view.loc (T d : Thread nD τ) ↦{fullShare} f

abbrev gi0 : DmaSems sig S_ := (cc1_scratch2.slice (Rect.unit (s := S4) ![0] S1.size inb_S4_S1_0)).squeeze S_ squeezes_S1_S_
abbrev gi1 : DmaSems sig S_ := (cc1_scratch2.slice (Rect.unit (s := S4) ![1] S1.size inb_S4_S1_1)).squeeze S_ squeezes_S1_S_
abbrev gi2 : DmaSems sig S_ := (cc1_scratch2.slice (Rect.unit (s := S4) ![2] S1.size inb_S4_S1_2)).squeeze S_ squeezes_S1_S_
abbrev gi3 : DmaSems sig S_ := (cc1_scratch2.slice (Rect.unit (s := S4) ![3] S1.size inb_S4_S1_3)).squeeze S_ squeezes_S1_S_
abbrev oo0 : DmaSems sig S_ := (cc1_scratch3.slice (Rect.unit (s := S4) ![0] S1.size inb_S4_S1_0)).squeeze S_ squeezes_S1_S_
abbrev oo1 : DmaSems sig S_ := (cc1_scratch3.slice (Rect.unit (s := S4) ![1] S1.size inb_S4_S1_1)).squeeze S_ squeezes_S1_S_
abbrev oo2 : DmaSems sig S_ := (cc1_scratch3.slice (Rect.unit (s := S4) ![2] S1.size inb_S4_S1_2)).squeeze S_ squeezes_S1_S_
abbrev oo3 : DmaSems sig S_ := (cc1_scratch3.slice (Rect.unit (s := S4) ![3] S1.size inb_S4_S1_3)).squeeze S_ squeezes_S1_S_

abbrev tcG : Memref sig .tc .hbm S8192x128 .f32 := Memref.whole main_v0
abbrev tcO : Memref sig .tc .hbm S8192x768 .f32 := Memref.whole main_v1
abbrev gB : Memref sig .tc .vmem S4x1024x128 .f32 := Memref.whole cc1_scratch0
abbrev oB : Memref sig .tc .vmem S4x1024x768 .f32 := Memref.whole cc1_scratch1

abbrev gR0 : Memref sig .tc .hbm S1024x128 .f32 := tcG.slice (Rect.unit (s := S8192x128) ![0, 0] S1024x128.size inb_S8192x128_S1024x128_0_0) (fun _ => rfl)
abbrev gR1 : Memref sig .tc .hbm S1024x128 .f32 := tcG.slice (Rect.unit (s := S8192x128) ![1024, 0] S1024x128.size inb_S8192x128_S1024x128_1024_0) (fun _ => rfl)
abbrev gR2 : Memref sig .tc .hbm S1024x128 .f32 := tcG.slice (Rect.unit (s := S8192x128) ![2048, 0] S1024x128.size inb_S8192x128_S1024x128_2048_0) (fun _ => rfl)
abbrev gR3 : Memref sig .tc .hbm S1024x128 .f32 := tcG.slice (Rect.unit (s := S8192x128) ![3072, 0] S1024x128.size inb_S8192x128_S1024x128_3072_0) (fun _ => rfl)
abbrev gR4 : Memref sig .tc .hbm S1024x128 .f32 := tcG.slice (Rect.unit (s := S8192x128) ![4096, 0] S1024x128.size inb_S8192x128_S1024x128_4096_0) (fun _ => rfl)
abbrev gR5 : Memref sig .tc .hbm S1024x128 .f32 := tcG.slice (Rect.unit (s := S8192x128) ![5120, 0] S1024x128.size inb_S8192x128_S1024x128_5120_0) (fun _ => rfl)
abbrev gR6 : Memref sig .tc .hbm S1024x128 .f32 := tcG.slice (Rect.unit (s := S8192x128) ![6144, 0] S1024x128.size inb_S8192x128_S1024x128_6144_0) (fun _ => rfl)
abbrev gR7 : Memref sig .tc .hbm S1024x128 .f32 := tcG.slice (Rect.unit (s := S8192x128) ![7168, 0] S1024x128.size inb_S8192x128_S1024x128_7168_0) (fun _ => rfl)
abbrev oR0 : Memref sig .tc .hbm S1024x768 .f32 := tcO.slice (Rect.unit (s := S8192x768) ![0, 0] S1024x768.size inb_S8192x768_S1024x768_0_0) (fun _ => rfl)
abbrev oR1 : Memref sig .tc .hbm S1024x768 .f32 := tcO.slice (Rect.unit (s := S8192x768) ![1024, 0] S1024x768.size inb_S8192x768_S1024x768_1024_0) (fun _ => rfl)
abbrev oR2 : Memref sig .tc .hbm S1024x768 .f32 := tcO.slice (Rect.unit (s := S8192x768) ![2048, 0] S1024x768.size inb_S8192x768_S1024x768_2048_0) (fun _ => rfl)
abbrev oR3 : Memref sig .tc .hbm S1024x768 .f32 := tcO.slice (Rect.unit (s := S8192x768) ![3072, 0] S1024x768.size inb_S8192x768_S1024x768_3072_0) (fun _ => rfl)
abbrev oR4 : Memref sig .tc .hbm S1024x768 .f32 := tcO.slice (Rect.unit (s := S8192x768) ![4096, 0] S1024x768.size inb_S8192x768_S1024x768_4096_0) (fun _ => rfl)
abbrev oR5 : Memref sig .tc .hbm S1024x768 .f32 := tcO.slice (Rect.unit (s := S8192x768) ![5120, 0] S1024x768.size inb_S8192x768_S1024x768_5120_0) (fun _ => rfl)
abbrev oR6 : Memref sig .tc .hbm S1024x768 .f32 := tcO.slice (Rect.unit (s := S8192x768) ![6144, 0] S1024x768.size inb_S8192x768_S1024x768_6144_0) (fun _ => rfl)
abbrev oR7 : Memref sig .tc .hbm S1024x768 .f32 := tcO.slice (Rect.unit (s := S8192x768) ![7168, 0] S1024x768.size inb_S8192x768_S1024x768_7168_0) (fun _ => rfl)
abbrev gS0 : Memref sig .tc .vmem S1024x128 .f32 := (gB.slice (Rect.unit (s := S4x1024x128) ![0, 0, 0] S1x1024x128.size inb_S4x1024x128_S1x1024x128_0_0_0) (fun _ => rfl)).squeeze S1024x128 squeezes_S1x1024x128_S1024x128
abbrev gS1 : Memref sig .tc .vmem S1024x128 .f32 := (gB.slice (Rect.unit (s := S4x1024x128) ![1, 0, 0] S1x1024x128.size inb_S4x1024x128_S1x1024x128_1_0_0) (fun _ => rfl)).squeeze S1024x128 squeezes_S1x1024x128_S1024x128
abbrev gS2 : Memref sig .tc .vmem S1024x128 .f32 := (gB.slice (Rect.unit (s := S4x1024x128) ![2, 0, 0] S1x1024x128.size inb_S4x1024x128_S1x1024x128_2_0_0) (fun _ => rfl)).squeeze S1024x128 squeezes_S1x1024x128_S1024x128
abbrev gS3 : Memref sig .tc .vmem S1024x128 .f32 := (gB.slice (Rect.unit (s := S4x1024x128) ![3, 0, 0] S1x1024x128.size inb_S4x1024x128_S1x1024x128_3_0_0) (fun _ => rfl)).squeeze S1024x128 squeezes_S1x1024x128_S1024x128
abbrev oS0 : Memref sig .tc .vmem S1024x768 .f32 := (oB.slice (Rect.unit (s := S4x1024x768) ![0, 0, 0] S1x1024x768.size inb_S4x1024x768_S1x1024x768_0_0_0) (fun _ => rfl)).squeeze S1024x768 squeezes_S1x1024x768_S1024x768
abbrev oS1 : Memref sig .tc .vmem S1024x768 .f32 := (oB.slice (Rect.unit (s := S4x1024x768) ![1, 0, 0] S1x1024x768.size inb_S4x1024x768_S1x1024x768_1_0_0) (fun _ => rfl)).squeeze S1024x768 squeezes_S1x1024x768_S1024x768
abbrev oS2 : Memref sig .tc .vmem S1024x768 .f32 := (oB.slice (Rect.unit (s := S4x1024x768) ![2, 0, 0] S1x1024x768.size inb_S4x1024x768_S1x1024x768_2_0_0) (fun _ => rfl)).squeeze S1024x768 squeezes_S1x1024x768_S1024x768
abbrev oS3 : Memref sig .tc .vmem S1024x768 .f32 := (oB.slice (Rect.unit (s := S4x1024x768) ![3, 0, 0] S1x1024x768.size inb_S4x1024x768_S1x1024x768_3_0_0) (fun _ => rfl)).squeeze S1024x768 squeezes_S1x1024x768_S1024x768

/-- A part of a buffer, the elements of a view of it, held at `f`. -/
abbrev ps {sp : Space} {S : Shape} {e : EltTy} (M : Memref sig .tc sp S e) (f : Bf (F := F) d M) : sProp 𝕄 :=
  M.view.loc (T d : Thread nD τ) ↦[M.view.set]{fullShare} f

end Cert.KernelIdeal.Gather

end
-- ==== Proof.TcVal.lean ====
module
public import proofs.«01_k».proof.Proof.TcDefs
public import Idealize.ShloMosaic.Lib.Pointwise.Index
public import Idealize.ShloMosaic.Lib.Pipeline.Value

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

variable [FloatOps F] (d : Dev nD)

/-! # What the TensorCore call computes -/

/-- Block `k` of 1024 rows of the gathered array, as a slot of the ring. -/
def rows8 {α : Type} (g : S8192x128.Idx → α) (k : Fin 8) : S1x1024x128.Idx → α :=
  fun i => g (ix2 ⟨1024 * k.val + (i 1).val, by have h : (i 1).val < 1024 := (i 1).isLt; have := k.isLt; omega⟩ ⟨(i 2).val, (i 2).isLt⟩)

/-- The token types of block `k`. -/
def ttRow {α : Type} (t : S4x2048.Idx → α) (k : Fin 8) : S1x1024.Idx → α :=
  fun i => t (ix2 ⟨k.val / 2, by have := k.isLt; omega⟩ ⟨1024 * (k.val % 2) + (i 1).val, by have h : (i 1).val < 1024 := (i 1).isLt; omega⟩)

/-- Row `r` of the segment table. -/
def segRow {α : Type} (s : S2x128.Idx → α) (r : Fin 2) : S1x128.Idx → α := fun i => s (ix2 r ⟨(i 1).val, (i 1).isLt⟩)

/-- What the kernel computes of block `k`. -/
def blkOut (x0 : S4x2048.Idx → Elt F .i32) (x1 : S2x128.Idx → Elt F .f32) (x2 : S768x128.Idx → Elt F .f32) (x3 x4 : S768.Idx → Elt F .f32)
    (g : S8192x128.Idx → Elt F .f32) (k : Fin 8) : FVec F S1x1024x768 .f32 :=
  k1_pay2 (segRow x1 0) (k1_pay1 (segRow x1 0) (segRow x1 1)) (ttRow x0 k) (rows8 g k) x2 x3 x4

/-- The call's result: block `i / 1024` at row `i % 1024`. -/
def outF (x0 : S4x2048.Idx → Elt F .i32) (x1 : S2x128.Idx → Elt F .f32) (x2 : S768x128.Idx → Elt F .f32) (x3 x4 : S768.Idx → Elt F .f32)
    (g : S8192x128.Idx → Elt F .f32) : S8192x768.Idx → Elt F .f32 :=
  fun i => blkOut x0 x1 x2 x3 x4 g ⟨(i 0).val / 1024, by have h : (i 0).val < 8192 := (i 0).isLt; omega⟩
    (ix3 0 ⟨(i 0).val % 1024, Nat.mod_lt _ (by decide)⟩ ⟨(i 1).val, (i 1).isLt⟩)

/-- An index of a slot, without the unit axis. -/
theorem resh_o (x : S1024x768.Idx) : Shape.reshapeEquiv (squeezes_S1x1024x768_S1024x768).numel_eq x = (ix3 0 (x 0) (x 1) : S1x1024x768.Idx) := by
  apply Shape.reshapeEquiv_eq_of_rowMajor
  rw [Shape.rowMajor_val_three, Shape.rowMajor_val_two]
  simp [ix3]

theorem resh_g (x : S1024x128.Idx) : Shape.reshapeEquiv (squeezes_S1x1024x128_S1024x128).numel_eq x = (ix3 0 (x 0) (x 1) : S1x1024x128.Idx) := by
  apply Shape.reshapeEquiv_eq_of_rowMajor
  rw [Shape.rowMajor_val_three, Shape.rowMajor_val_two]
  simp [ix3]

/-- A slot of the output ring, read back after a store of it. -/
theorem slot_read (j : ℕ) (h : ∀ a, (![j, 0, 0] : Fin 3 → ℕ) a + S1x1024x768.size a ≤ S4x1024x768.size a) (p) (w) (pay : S1x1024x768.Idx → Elt F .f32) (x : S1024x768.Idx) :
    (((oB.slice (Rect.unit (s := S4x1024x768) ![j, 0, 0] S1x1024x768.size h) p).squeeze S1024x768 squeezes_S1x1024x768_S1024x768).view.read (Elt F)
      (View.write (Elt F) (oB.access (Rect.unit (s := S4x1024x768) ![j, 0, 0] S1x1024x768.size h)) w pay Finset.univ)) x = pay (ix3 0 (x 0) (x 1)) := by
  have e := congrFun (View.read_write_univ (v := oB.access (Rect.unit (s := S4x1024x768) ![j, 0, 0] S1x1024x768.size h)) w pay)
    (Shape.reshapeEquiv (squeezes_S1x1024x768_S1024x768).numel_eq x)
  rw [resh_o] at e
  refine Eq.trans ?_ e
  rw [← resh_o]; rfl

/-- A slot of the input ring, loaded after a transfer landed in it. -/
theorem slot_load (j : ℕ) (h : ∀ a, (![j, 0, 0] : Fin 3 → ℕ) a + S1x1024x128.size a ≤ S4x1024x128.size a) (p) (w) (pay : S1024x128.Idx → Elt F .f32) (rest) :
    View.readAt (Elt F) gB.view (Rect.unit (s := S4x1024x128) ![j, 0, 0] S1x1024x128.size h).toLoadRect
      (((gB.slice (Rect.unit (s := S4x1024x128) ![j, 0, 0] S1x1024x128.size h) p).squeeze S1024x128 squeezes_S1x1024x128_S1024x128).view.writes (Elt F) w (⟨Rect.whole S1024x128, pay⟩ :: rest))
      = fun i => pay (ix2 ⟨(i 1).val, (i 1).isLt⟩ ⟨(i 2).val, (i 2).isLt⟩) := by
  funext i
  have e := View.read_writes_cons_emb (v := ((gB.slice (Rect.unit (s := S4x1024x128) ![j, 0, 0] S1x1024x128.size h) p).squeeze S1024x128 squeezes_S1x1024x128_S1024x128).view) (f := w)
    (Rect.whole S1024x128) pay rest (ix2 ⟨(i 1).val, (i 1).isLt⟩ ⟨(i 2).val, (i 2).isLt⟩)
  refine Eq.trans ?_ e
  rw [show (Rect.whole S1024x128).emb (ix2 ⟨(i 1).val, (i 1).isLt⟩ ⟨(i 2).val, (i 2).isLt⟩) = ix2 ⟨(i 1).val, (i 1).isLt⟩ ⟨(i 2).val, (i 2).isLt⟩ from Rect.emb_whole_apply _ _]
  have hi : (Shape.reshapeEquiv (squeezes_S1x1024x128_S1024x128).numel_eq (ix2 ⟨(i 1).val, (i 1).isLt⟩ ⟨(i 2).val, (i 2).isLt⟩)) = i := by
    rw [resh_g]
    funext a
    match a with
    | ⟨0, _⟩ => exact Fin.ext (by have : (i 0).val < 1 := (i 0).isLt; show 0 = (i 0).val; omega)
    | ⟨1, _⟩ => rfl
    | ⟨2, _⟩ => rfl
  conv_lhs => rw [← hi]
  rfl

/-- What a transfer reads of the gathered array. -/
theorem rows_read (k : Fin 8) (n : ℕ) (hn : n = 1024 * k.val) (h : ∀ a, (![n, 0] : Fin 2 → ℕ) a + S1024x128.size a ≤ S8192x128.size a) (p) (g : Bf (F := F) d tcG) :
    (fun i : S1x1024x128.Idx => (ReadAs.same.apply (View.read (Elt F) (tcG.slice (Rect.unit (s := S8192x128) ![n, 0] S1024x128.size h) p).view g) : S1024x128.Idx → Elt F .f32)
        (ix2 ⟨(i 1).val, (i 1).isLt⟩ ⟨(i 2).val, (i 2).isLt⟩)) = rows8 g k := by
  subst hn
  funext i
  show g _ = g _
  congr 1
  funext a
  refine Fin.ext ?_
  match a with
  | ⟨0, _⟩ => show 1024 * k.val + 1 * (i 1).val = 1024 * k.val + (i 1).val; omega
  | ⟨1, _⟩ => show 0 + 1 * (i 2).val = (i 2).val; omega

theorem tt_read (k : Fin 8) (r c : ℕ) (hr : r = k.val / 2) (hc : c = 1024 * (k.val % 2)) (h : ∀ a, (![r, c] : Fin 2 → ℕ) a + S1x1024.size a ≤ S4x2048.size a)
    (x0 : Bf (F := F) d (stage1_0 0)) :
    View.readAt (Elt F) (stage1_0 0).view (Rect.unit (s := S4x2048) ![r, c] S1x1024.size h).toLoadRect x0 = ttRow x0 k := by
  subst hr hc
  funext i
  show x0 _ = x0 _
  congr 1
  funext a
  refine Fin.ext ?_
  match a with
  | ⟨0, _⟩ => show k.val / 2 + 1 * (i 0).val = k.val / 2; have : (i 0).val < 1 := (i 0).isLt; omega
  | ⟨1, _⟩ => show 1024 * (k.val % 2) + 1 * (i 1).val = 1024 * (k.val % 2) + (i 1).val; omega

theorem seg_read (r : Fin 2) (n : ℕ) (hn : n = r.val) (h : ∀ a, (![n, 0] : Fin 2 → ℕ) a + S1x128.size a ≤ S2x128.size a) (x1 : Bf (F := F) d (stage1_1 0)) :
    View.readAt (Elt F) (stage1_1 0).view (Rect.unit (s := S2x128) ![n, 0] S1x128.size h).toLoadRect x1 = segRow x1 r := by
  subst hn
  funext i
  show x1 _ = x1 _
  congr 1
  funext a
  refine Fin.ext ?_
  match a with
  | ⟨0, _⟩ => show r.val + 1 * (i 0).val = r.val; have : (i 0).val < 1 := (i 0).isLt; omega
  | ⟨1, _⟩ => show 0 + 1 * (i 1).val = (i 1).val; omega

theorem w_read (x2 : Bf (F := F) d (stage1_2 0)) :
    View.readAt (Elt F) (stage1_2 0).view (Rect.unit (s := S768x128) ![0, 0] S768x128.size inb_S768x128_S768x128_0_0).toLoadRect x2 = x2 := by
  funext i
  show x2 _ = x2 _
  congr 1
  funext a
  refine Fin.ext ?_
  match a with
  | ⟨0, _⟩ => show 0 + 1 * (i 0).val = (i 0).val; omega
  | ⟨1, _⟩ => show 0 + 1 * (i 1).val = (i 1).val; omega

theorem b_read (x3 : Bf (F := F) d (stage1_3 0)) :
    View.readAt (Elt F) (stage1_3 0).view (Rect.unit (s := S768) ![0] S768.size inb_S768_S768_0).toLoadRect x3 = x3 := by
  funext i
  show x3 _ = x3 _
  congr 1
  funext a
  refine Fin.ext ?_
  match a with
  | ⟨0, _⟩ => show 0 + 1 * (i 0).val = (i 0).val; omega

theorem rw_read (x4 : Bf (F := F) d (stage1_4 0)) :
    View.readAt (Elt F) (stage1_4 0).view (Rect.unit (s := S768) ![0] S768.size inb_S768_S768_0).toLoadRect x4 = x4 := by
  funext i
  show x4 _ = x4 _
  congr 1
  funext a
  refine Fin.ext ?_
  match a with
  | ⟨0, _⟩ => show 0 + 1 * (i 0).val = (i 0).val; omega

/-- A block of rows of the result after its write-back, where what was written back is block `k`. -/
theorem out_val (k : Fin 8) (n : ℕ) (hn : n = 1024 * k.val) (h : ∀ a, (![n, 0] : Fin 2 → ℕ) a + S1024x768.size a ≤ S8192x768.size a) (p) (o : Bf (F := F) d tcO)
    (x0 : S4x2048.Idx → Elt F .i32) (x1 : S2x128.Idx → Elt F .f32) (x2 : S768x128.Idx → Elt F .f32) (x3 x4 : S768.Idx → Elt F .f32)
    (g : S8192x128.Idx → Elt F .f32) (pay : S1024x768.Idx → Elt F .f32) (hp : ∀ x, pay x = blkOut x0 x1 x2 x3 x4 g k (ix3 0 (x 0) (x 1))) :
    ∀ i ∈ (tcO.slice (Rect.unit (s := S8192x768) ![n, 0] S1024x768.size h) p).view.set,
      (tcO.slice (Rect.unit (s := S8192x768) ![n, 0] S1024x768.size h) p).view.writes (Elt F) o [⟨Rect.whole S1024x768, pay⟩] i = outF x0 x1 x2 x3 x4 g i := by
  subst hn
  intro i hi
  obtain ⟨x, -, rfl⟩ := Finset.mem_map.mp hi
  have e := congrFun (View.read_writes_whole (tcO.slice (Rect.unit (s := S8192x768) ![1024 * k.val, 0] S1024x768.size h) p).view o pay) x
  rw [View.read_apply, cast_eq] at e
  refine e.trans ((hp x).trans ?_)
  have hx : (x 0).val < 1024 := (x 0).isLt
  have h0 : ((tcO.slice (Rect.unit (s := S8192x768) ![1024 * k.val, 0] S1024x768.size h) p).view.emb x 0).val = 1024 * k.val + 1 * (x 0).val := rfl
  have h1 : ((tcO.slice (Rect.unit (s := S8192x768) ![1024 * k.val, 0] S1024x768.size h) p).view.emb x 1).val = 0 + 1 * (x 1).val := rfl
  unfold outF
  refine congr (congrArg (blkOut x0 x1 x2 x3 x4 g) (Fin.ext ?_)) ?_
  · show k.val = _ / 1024
    rw [h0]; omega
  · funext a
    refine Fin.ext ?_
    match a with
    | ⟨0, _⟩ => rfl
    | ⟨1, _⟩ => show (x 0).val = _ % 1024; rw [h0]; omega
    | ⟨2, _⟩ => exact (show (x 1).val = 0 + 1 * (x 1).val by omega).trans h1.symm

end Cert.KernelIdeal.Gather

end
-- ==== Proof.TcRun.lean ====
module
public import proofs.«01_k».proof.Proof.TcVal

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

variable [FloatOps F] (d : Dev nD)

theorem pay_eq {x0 : S4x2048.Idx → Elt F .i32} {x1 : S2x128.Idx → Elt F .f32} {x2 : S768x128.Idx → Elt F .f32} {x3 x4 : S768.Idx → Elt F .f32}
    {g : S8192x128.Idx → Elt F .f32} {k : Fin 8} {a a' : Vec F S1x128 .f32} {t : Vec F S1x1024 .i32} {s : Vec F S1x1024x128 .f32} {w : Vec F S768x128 .f32} {b r : Vec F S768 .f32}
    (ha : a = segRow x1 0) (ha' : a' = segRow x1 1) (ht : t = ttRow x0 k) (hs : s = rows8 g k) (hw : w = x2) (hb : b = x3) (hr : r = x4) :
    k1_pay2 a (k1_pay1 a a') t s w b r = blkOut x0 x1 x2 x3 x4 g k := by
  subst ha ha' ht hs hw hb hr; rfl

theorem pay_eq_b {x0 : S4x2048.Idx → Elt F .i32} {x1 : S2x128.Idx → Elt F .f32} {x2 : S768x128.Idx → Elt F .f32} {x3 x4 : S768.Idx → Elt F .f32}
    {g : S8192x128.Idx → Elt F .f32} {k : Fin 8} {a a' : Vec F S1x128 .f32} {t : Vec F S1x1024 .i32} {s : Vec F S1x1024x128 .f32} {w : Vec F S768x128 .f32} {b r : Vec F S768 .f32}
    (ha : a = segRow x1 0) (ha' : a' = segRow x1 1) (ht : t = ttRow x0 k) (hs : s = rows8 g k) (hw : w = x2) (hb : b = x3) (hr : r = x4) :
    k1_pay4 (k1_pay3 a (k1_pay1 a a') t s w b) r = blkOut x0 x1 x2 x3 x4 g k :=
  Eq.trans (by rfl) (pay_eq ha ha' ht hs hw hb hr)

theorem pay_eq_c {x0 : S4x2048.Idx → Elt F .i32} {x1 : S2x128.Idx → Elt F .f32} {x2 : S768x128.Idx → Elt F .f32} {x3 x4 : S768.Idx → Elt F .f32}
    {g : S8192x128.Idx → Elt F .f32} {k : Fin 8} {a a' : Vec F S1x128 .f32} {t : Vec F S1x1024 .i32} {s : Vec F S1x1024x128 .f32} {w : Vec F S768x128 .f32} {b r : Vec F S768 .f32}
    (ha : a = segRow x1 0) (ha' : a' = segRow x1 1) (ht : t = ttRow x0 k) (hs : s = rows8 g k) (hw : w = x2) (hb : b = x3) (hr : r = x4) :
    k1_pay9 (k1_pay6 a (k1_pay1 a a') t s w b) (k1_pay7 a (k1_pay1 a a') t s w b) k1_pay8 r = blkOut x0 x1 x2 x3 x4 g k :=
  Eq.trans (by rfl) (pay_eq ha ha' ht hs hw hb hr)

theorem pay5_eq : k1_pay5 (F := F) = k1_pay2 := rfl
theorem pay10_eq : k1_pay10 (F := F) = k1_pay2 := rfl
theorem pay13_eq : k1_pay13 (F := F) = k1_pay2 := rfl
theorem pay11_eq : k1_pay11 (F := F) = k1_pay3 := rfl
theorem pay12_eq : k1_pay12 (F := F) = k1_pay4 := rfl
theorem pay14_eq : k1_pay14 (F := F) = k1_pay6 := rfl
theorem pay15_eq : k1_pay15 (F := F) = k1_pay7 := rfl
theorem pay16_eq : k1_pay16 (F := F) = k1_pay8 := rfl
theorem pay17_eq : k1_pay17 (F := F) = k1_pay9 := rfl

set_option maxHeartbeats 4000000 in
/-- The TensorCore kernel's run: from its five staged operands, the gathered array's row blocks, the result's, the two rings' slots and
    the ring semaphores at zero, it leaves the result's row blocks at `outF` of the operands and everything else as it was. -/
theorem tc_core (O : CellTallies nD τ sig (HIx 1)) (W : Waits sig (HIx 1))
    (x0 : Bf (F := F) d (stage1_0 0)) (x1 : Bf (F := F) d (stage1_1 0)) (x2 : Bf (F := F) d (stage1_2 0)) (x3 : Bf (F := F) d (stage1_3 0)) (x4 : Bf (F := F) d (stage1_4 0))
    (g : Bf (F := F) d tcG) (o : Bf (F := F) d tcO) (gb : Bf (F := F) d gB) (ob : Bf (F := F) d oB) :
    (iprop(Transfers.MayWaits (T d) (default : HIx 1) O
        ∗ pt d (stage1_0 0) x0 ∗ pt d (stage1_1 0) x1 ∗ pt d (stage1_2 0) x2 ∗ pt d (stage1_3 0) x3 ∗ pt d (stage1_4 0) x4
        ∗ ps d gR0 g ∗ ps d gR1 g ∗ ps d gR2 g ∗ ps d gR3 g ∗ ps d gR4 g ∗ ps d gR5 g ∗ ps d gR6 g ∗ ps d gR7 g
        ∗ ps d oR0 o ∗ ps d oR1 o ∗ ps d oR2 o ∗ ps d oR3 o ∗ ps d oR4 o ∗ ps d oR5 o ∗ ps d oR6 o ∗ ps d oR7 o
        ∗ ps d gS0 gb ∗ ps d gS1 gb ∗ ps d gS2 gb ∗ ps d gS3 gb
        ∗ ps d oS0 ob ∗ ps d oS1 ob ∗ ps d oS2 ob ∗ ps d oS3 ob
        ∗ semVal (T d, .dma (gi0).sem) 0 ∗ semVal (T d, .dma (gi1).sem) 0 ∗ semVal (T d, .dma (gi2).sem) 0 ∗ semVal (T d, .dma (gi3).sem) 0
        ∗ semVal (T d, .dma (oo0).sem) 0 ∗ semVal (T d, .dma (oo1).sem) 0 ∗ semVal (T d, .dma (oo2).sem) 0 ∗ semVal (T d, .dma (oo3).sem) 0
        ∗ owes (T d) O W) : sProp 𝕄)
      ⊢ wp frame (wpE (defs₀ (F := F)) 𝒱₀ (T d) none) Set.univ
          (cc1__tc_body (stage1_0 0) (hstage1_0 0) (stage1_1 0) (hstage1_1 0) (stage1_2 0) (hstage1_2 0) (stage1_3 0) (hstage1_3 0) (stage1_4 0) (hstage1_4 0)
            tcG (Memref.isWhole_whole _) tcO (Memref.isWhole_whole _) gB (Memref.isWhole_whole _) oB (Memref.isWhole_whole _) cc1_scratch2 cc1_scratch3)
          fun _ => iprop(pt d (stage1_0 0) x0 ∗ pt d (stage1_1 0) x1 ∗ pt d (stage1_2 0) x2 ∗ pt d (stage1_3 0) x3 ∗ pt d (stage1_4 0) x4
            ∗ ps d gR0 g ∗ ps d gR1 g ∗ ps d gR2 g ∗ ps d gR3 g ∗ ps d gR4 g ∗ ps d gR5 g ∗ ps d gR6 g ∗ ps d gR7 g
            ∗ ps d oR0 (outF x0 x1 x2 x3 x4 g) ∗ ps d oR1 (outF x0 x1 x2 x3 x4 g) ∗ ps d oR2 (outF x0 x1 x2 x3 x4 g) ∗ ps d oR3 (outF x0 x1 x2 x3 x4 g) ∗ ps d oR4 (outF x0 x1 x2 x3 x4 g) ∗ ps d oR5 (outF x0 x1 x2 x3 x4 g) ∗ ps d oR6 (outF x0 x1 x2 x3 x4 g) ∗ ps d oR7 (outF x0 x1 x2 x3 x4 g)
            ∗ (∃ f, ps d gS0 f) ∗ (∃ f, ps d gS1 f) ∗ (∃ f, ps d gS2 f) ∗ (∃ f, ps d gS3 f)
            ∗ (∃ f, ps d oS0 f) ∗ (∃ f, ps d oS1 f) ∗ (∃ f, ps d oS2 f) ∗ (∃ f, ps d oS3 f)
            ∗ semVal (T d, .dma (gi0).sem) 0 ∗ semVal (T d, .dma (gi1).sem) 0 ∗ semVal (T d, .dma (gi2).sem) 0 ∗ semVal (T d, .dma (gi3).sem) 0
            ∗ semVal (T d, .dma (oo0).sem) 0 ∗ semVal (T d, .dma (oo1).sem) 0 ∗ semVal (T d, .dma (oo2).sem) 0 ∗ semVal (T d, .dma (oo3).sem) 0
            ∗ ∃ W', ⌜∀ p ∈ W', p ∈ W ∨ p.2 = none⌝ ∗ owes (T d) O W') := by
  rw [cc1__tc_body_eq_skeleton]; unfold cc1__tc_body_skel
  iintro ⟨#Hmw, H0, H1, H2, H3, H4, Hgr0, Hgr1, Hgr2, Hgr3, Hgr4, Hgr5, Hgr6, Hgr7, Hor0, Hor1, Hor2, Hor3, Hor4, Hor5, Hor6, Hor7, Hgs0, Hgs1, Hgs2, Hgs3, Hos0, Hos1, Hos2, Hos3, Hi0, Hi1, Hi2, Hi3, Ho0, Ho1, Ho2, Ho3, HO⟩
  sl_exec
  have hp0 : ∀ x : S1024x768.Idx, tc_core.sl.dma9 d x0 x1 x2 x3 x4 g ob x = blkOut x0 x1 x2 x3 x4 g 0 (ix3 0 (x 0) (x 1)) := fun x =>
    (slot_read 0 inb_S4x1024x768_S1x1024x768_0_0_0 (fun _ => rfl) _ _ x).trans (congrFun (pay_eq (k := 0) (seg_read d 0 0 rfl inb_S2x128_S1x128_0_0 x1) (seg_read d 1 1 rfl inb_S2x128_S1x128_1_0 x1)
      (tt_read d 0 0 0 rfl rfl inb_S4x2048_S1x1024_0_0 x0) ((slot_load 0 inb_S4x1024x128_S1x1024x128_0_0_0 (fun _ => rfl) _ _ _).trans (rows_read d 0 0 rfl inb_S8192x128_S1024x128_0_0 (fun _ => rfl) g))
      (w_read d x2) (b_read d x3) (rw_read d x4)) _)
  have hp1 : ∀ x : S1024x768.Idx, tc_core.sl.dma16 d x0 x1 x2 x3 x4 g ob x = blkOut x0 x1 x2 x3 x4 g 1 (ix3 0 (x 0) (x 1)) := fun x =>
    (slot_read 1 inb_S4x1024x768_S1x1024x768_1_0_0 (fun _ => rfl) _ _ x).trans (congrFun (pay_eq_b (k := 1) (seg_read d 0 0 rfl inb_S2x128_S1x128_0_0 x1) (seg_read d 1 1 rfl inb_S2x128_S1x128_1_0 x1)
      (tt_read d 1 0 1024 rfl rfl inb_S4x2048_S1x1024_0_1024 x0) ((slot_load 1 inb_S4x1024x128_S1x1024x128_1_0_0 (fun _ => rfl) _ _ _).trans (rows_read d 1 1024 rfl inb_S8192x128_S1024x128_1024_0 (fun _ => rfl) g))
      (w_read d x2) (b_read d x3) (rw_read d x4)) _)
  have hp2 : ∀ x : S1024x768.Idx, tc_core.sl.dma23 d x0 x1 x2 x3 x4 g ob x = blkOut x0 x1 x2 x3 x4 g 2 (ix3 0 (x 0) (x 1)) := fun x =>
    (slot_read 2 inb_S4x1024x768_S1x1024x768_2_0_0 (fun _ => rfl) _ _ x).trans (congrFun (pay_eq (k := 2) (seg_read d 0 0 rfl inb_S2x128_S1x128_0_0 x1) (seg_read d 1 1 rfl inb_S2x128_S1x128_1_0 x1)
      (tt_read d 2 1 0 rfl rfl inb_S4x2048_S1x1024_1_0 x0) ((slot_load 2 inb_S4x1024x128_S1x1024x128_2_0_0 (fun _ => rfl) _ _ _).trans (rows_read d 2 2048 rfl inb_S8192x128_S1024x128_2048_0 (fun _ => rfl) g))
      (w_read d x2) (b_read d x3) (rw_read d x4)) _)
  have hp3 : ∀ x : S1024x768.Idx, tc_core.sl.dma30 d x0 x1 x2 x3 x4 g ob x = blkOut x0 x1 x2 x3 x4 g 3 (ix3 0 (x 0) (x 1)) := fun x =>
    (slot_read 3 inb_S4x1024x768_S1x1024x768_3_0_0 (fun _ => rfl) _ _ x).trans (congrFun (pay_eq_c (k := 3) (seg_read d 0 0 rfl inb_S2x128_S1x128_0_0 x1) (seg_read d 1 1 rfl inb_S2x128_S1x128_1_0 x1)
      (tt_read d 3 1 1024 rfl rfl inb_S4x2048_S1x1024_1_1024 x0) ((slot_load 3 inb_S4x1024x128_S1x1024x128_3_0_0 (fun _ => rfl) _ _ _).trans (rows_read d 3 3072 rfl inb_S8192x128_S1024x128_3072_0 (fun _ => rfl) g))
      (w_read d x2) (b_read d x3) (rw_read d x4)) _)
  have hp4 : ∀ x : S1024x768.Idx, tc_core.sl.dma37 d x0 x1 x2 x3 x4 g ob x = blkOut x0 x1 x2 x3 x4 g 4 (ix3 0 (x 0) (x 1)) := fun x =>
    (slot_read 0 inb_S4x1024x768_S1x1024x768_0_0_0 (fun _ => rfl) _ _ x).trans (congrFun (pay_eq (k := 4) (seg_read d 0 0 rfl inb_S2x128_S1x128_0_0 x1) (seg_read d 1 1 rfl inb_S2x128_S1x128_1_0 x1)
      (tt_read d 4 2 0 rfl rfl inb_S4x2048_S1x1024_2_0 x0) ((slot_load 0 inb_S4x1024x128_S1x1024x128_0_0_0 (fun _ => rfl) _ _ _).trans (rows_read d 4 4096 rfl inb_S8192x128_S1024x128_4096_0 (fun _ => rfl) g))
      (w_read d x2) (b_read d x3) (rw_read d x4)) _)
  have hp5 : ∀ x : S1024x768.Idx, tc_core.sl.dma44 d x0 x1 x2 x3 x4 g ob x = blkOut x0 x1 x2 x3 x4 g 5 (ix3 0 (x 0) (x 1)) := fun x =>
    (slot_read 1 inb_S4x1024x768_S1x1024x768_1_0_0 (fun _ => rfl) _ _ x).trans (congrFun (pay_eq_b (k := 5) (seg_read d 0 0 rfl inb_S2x128_S1x128_0_0 x1) (seg_read d 1 1 rfl inb_S2x128_S1x128_1_0 x1)
      (tt_read d 5 2 1024 rfl rfl inb_S4x2048_S1x1024_2_1024 x0) ((slot_load 1 inb_S4x1024x128_S1x1024x128_1_0_0 (fun _ => rfl) _ _ _).trans (rows_read d 5 5120 rfl inb_S8192x128_S1024x128_5120_0 (fun _ => rfl) g))
      (w_read d x2) (b_read d x3) (rw_read d x4)) _)
  have hp6 : ∀ x : S1024x768.Idx, tc_core.sl.dma51 d x0 x1 x2 x3 x4 g ob x = blkOut x0 x1 x2 x3 x4 g 6 (ix3 0 (x 0) (x 1)) := fun x =>
    (slot_read 2 inb_S4x1024x768_S1x1024x768_2_0_0 (fun _ => rfl) _ _ x).trans (congrFun (pay_eq (k := 6) (seg_read d 0 0 rfl inb_S2x128_S1x128_0_0 x1) (seg_read d 1 1 rfl inb_S2x128_S1x128_1_0 x1)
      (tt_read d 6 3 0 rfl rfl inb_S4x2048_S1x1024_3_0 x0) ((slot_load 2 inb_S4x1024x128_S1x1024x128_2_0_0 (fun _ => rfl) _ _ _).trans (rows_read d 6 6144 rfl inb_S8192x128_S1024x128_6144_0 (fun _ => rfl) g))
      (w_read d x2) (b_read d x3) (rw_read d x4)) _)
  have hp7 : ∀ x : S1024x768.Idx, tc_core.sl.dma58 d x0 x1 x2 x3 x4 g ob x = blkOut x0 x1 x2 x3 x4 g 7 (ix3 0 (x 0) (x 1)) := fun x =>
    (slot_read 3 inb_S4x1024x768_S1x1024x768_3_0_0 (fun _ => rfl) _ _ x).trans (congrFun (pay_eq_c (k := 7) (seg_read d 0 0 rfl inb_S2x128_S1x128_0_0 x1) (seg_read d 1 1 rfl inb_S2x128_S1x128_1_0 x1)
      (tt_read d 7 3 1024 rfl rfl inb_S4x2048_S1x1024_3_1024 x0) ((slot_load 3 inb_S4x1024x128_S1x1024x128_3_0_0 (fun _ => rfl) _ _ _).trans (rows_read d 7 7168 rfl inb_S8192x128_S1024x128_7168_0 (fun _ => rfl) g))
      (w_read d x2) (b_read d x3) (rw_read d x4)) _)
  ihave Hq0 := (Entails.of_eq (pointsTo_congr (out_val d 0 0 rfl inb_S8192x768_S1024x768_0_0 (fun _ => rfl) o x0 x1 x2 x3 x4 g _ hp0))) $$ Hor0
  ihave Hq1 := (Entails.of_eq (pointsTo_congr (out_val d 1 1024 rfl inb_S8192x768_S1024x768_1024_0 (fun _ => rfl) o x0 x1 x2 x3 x4 g _ hp1))) $$ Hor1
  ihave Hq2 := (Entails.of_eq (pointsTo_congr (out_val d 2 2048 rfl inb_S8192x768_S1024x768_2048_0 (fun _ => rfl) o x0 x1 x2 x3 x4 g _ hp2))) $$ Hor2
  ihave Hq3 := (Entails.of_eq (pointsTo_congr (out_val d 3 3072 rfl inb_S8192x768_S1024x768_3072_0 (fun _ => rfl) o x0 x1 x2 x3 x4 g _ hp3))) $$ Hor3
  ihave Hq4 := (Entails.of_eq (pointsTo_congr (out_val d 4 4096 rfl inb_S8192x768_S1024x768_4096_0 (fun _ => rfl) o x0 x1 x2 x3 x4 g _ hp4))) $$ Hor4
  ihave Hq5 := (Entails.of_eq (pointsTo_congr (out_val d 5 5120 rfl inb_S8192x768_S1024x768_5120_0 (fun _ => rfl) o x0 x1 x2 x3 x4 g _ hp5))) $$ Hor5
  ihave Hq6 := (Entails.of_eq (pointsTo_congr (out_val d 6 6144 rfl inb_S8192x768_S1024x768_6144_0 (fun _ => rfl) o x0 x1 x2 x3 x4 g _ hp6))) $$ Hor6
  ihave Hq7 := (Entails.of_eq (pointsTo_congr (out_val d 7 7168 rfl inb_S8192x768_S1024x768_7168_0 (fun _ => rfl) o x0 x1 x2 x3 x4 g _ hp7))) $$ Hor7
  sl_step
  isplitl [H0]; · iexact H0
  isplitl [H1]; · iexact H1
  isplitl [H2]; · iexact H2
  isplitl [H3]; · iexact H3
  isplitl [H4]; · iexact H4
  isplitl [Hgr0]; · iexact Hgr0
  isplitl [Hgr1]; · iexact Hgr1
  isplitl [Hgr2]; · iexact Hgr2
  isplitl [Hgr3]; · iexact Hgr3
  isplitl [Hgr4]; · iexact Hgr4
  isplitl [Hgr5]; · iexact Hgr5
  isplitl [Hgr6]; · iexact Hgr6
  isplitl [Hgr7]; · iexact Hgr7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hgs0]; · iexists _; iexact Hgs0
  isplitl [Hgs1]; · iexists _; iexact Hgs1
  isplitl [Hgs2]; · iexists _; iexact Hgs2
  isplitl [Hgs3]; · iexists _; iexact Hgs3
  isplitl [Hos0]; · iexists _; iexact Hos0
  isplitl [Hos1]; · iexists _; iexact Hos1
  isplitl [Hos2]; · iexists _; iexact Hos2
  isplitl [Hos3]; · iexists _; iexact Hos3
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  iexists _; isplitr
  swap; · iexact HO
  ipureintro; intro p hp
  simp only [Finset.mem_insert] at hp
  repeat (first | exact .inl hp | (rcases hp with hp | hp; · exact .inr (hp ▸ rfl)))

end Cert.KernelIdeal.Gather

end
-- ==== Proof.TcSplit.lean ====
module
public import proofs.«01_k».proof.Proof.TcDefs
public import Idealize.ShloMosaic.Lib.Pipeline.Kit

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

variable [FloatOps F] (d : Dev nD)

omit [FloatOps F]

/-! # The row blocks and the ring slots, from whole buffers and back -/

/-- A buffer held whole is its pieces, when each element lies in the one piece a numbering names. -/
theorem pieces {ℓ : Loc nD τ sig} {n : ℕ} (S : Fin n → Finset (Idx ℓ)) (cls : Idx ℓ → Fin n) (hS : ∀ k y, y ∈ S k ↔ cls y = k) (f : Buf (Elt F) ℓ) :
    (ℓ ↦{fullShare} f : sProp 𝕄) = bigSep Finset.univ fun k => ℓ ↦[S k]{fullShare} f := by
  have hc : (Finset.univ : Finset (Fin n)).biUnion S = Finset.univ := by
    ext y; simp only [Finset.mem_biUnion, Finset.mem_univ, true_and, iff_true]; exact ⟨cls y, (hS _ y).mpr rfl⟩
  rw [← hc]
  refine pointsTo_biUnion Finset.univ (ℓ := ℓ) S ?_
  intro i _ j _ hij
  exact Finset.disjoint_left.mpr fun y h0 h1 => hij (((hS i y).mp h0).symm.trans ((hS j y).mp h1))

/-- Pieces each at some contents are the buffer at some contents. -/
theorem unpieces [∀ e, Nonempty (Elt F e)] {ℓ : Loc nD τ sig} {n : ℕ} (S : Fin (n + 1) → Finset (Idx ℓ)) (cls : Idx ℓ → Fin (n + 1)) (hS : ∀ k y, y ∈ S k ↔ cls y = k) :
    (bigSep Finset.univ fun k => iprop(∃ f, ℓ ↦[S k]{fullShare} f)) ⊢ (iprop(∃ f : Buf (Elt F) ℓ, ℓ ↦{fullShare} f) : sProp 𝕄) := by
  have : Nonempty (Buf (Elt F) ℓ) := ⟨fun _ => Classical.arbitrary _⟩
  refine (bigSep_exists_pi Finset.univ (fun k (f : Buf (Elt F) ℓ) => (ℓ ↦[S k]{fullShare} f : sProp 𝕄))).trans ?_
  have hc : (Finset.univ : Finset (Fin (n + 1))).biUnion S = Finset.univ := by
    ext y; simp only [Finset.mem_biUnion, Finset.mem_univ, true_and, iff_true]; exact ⟨cls y, (hS _ y).mpr rfl⟩
  iintro ⟨%fs, H⟩
  ihave H' := (pointsTo_biUnion_join (ℓ := ℓ) (q := fullShare) (Val := Elt F) Finset.univ S fs (fs 0) (fun i _ j _ hij =>
    Finset.disjoint_left.mpr fun y h0 h1 => hij (((hS i y).mp h0).symm.trans ((hS j y).mp h1)))) $$ H
  icases H' with ⟨%g, -, Hg⟩
  rw [hc]
  iexists g; iexact Hg

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem mem_gR (k n : ℕ) (hn : n = 1024 * k) (h : ∀ a, (![n, 0] : Fin 2 → ℕ) a + S1024x128.size a ≤ S8192x128.size a) (p) (y : S8192x128.Idx) :
    y ∈ (tcG.slice (Rect.unit (s := S8192x128) ![n, 0] S1024x128.size h) p).view.set ↔ (y 0).val / 1024 = k := by
  subst hn
  rw [show (tcG.slice (Rect.unit (s := S8192x128) ![1024 * k, 0] S1024x128.size h) p).view.set = (Rect.unit (s := S8192x128) ![1024 * k, 0] S1024x128.size h).set from
    View.set_slice_whole _ _, Rect.mem_set_unit]
  have h1 : (y 1).val < 128 := (y 1).isLt
  constructor
  · intro hh
    have a := hh 0
    change 1024 * k ≤ (y 0).val ∧ (y 0).val < 1024 * k + 1024 at a
    omega
  · intro hh a
    match a with
    | ⟨0, _⟩ => show 1024 * k ≤ (y 0).val ∧ (y 0).val < 1024 * k + 1024; omega
    | ⟨1, _⟩ => show 0 ≤ (y 1).val ∧ (y 1).val < 0 + 128; omega

theorem mem_oR (k n : ℕ) (hn : n = 1024 * k) (h : ∀ a, (![n, 0] : Fin 2 → ℕ) a + S1024x768.size a ≤ S8192x768.size a) (p) (y : S8192x768.Idx) :
    y ∈ (tcO.slice (Rect.unit (s := S8192x768) ![n, 0] S1024x768.size h) p).view.set ↔ (y 0).val / 1024 = k := by
  subst hn
  rw [show (tcO.slice (Rect.unit (s := S8192x768) ![1024 * k, 0] S1024x768.size h) p).view.set = (Rect.unit (s := S8192x768) ![1024 * k, 0] S1024x768.size h).set from
    View.set_slice_whole _ _, Rect.mem_set_unit]
  have h1 : (y 1).val < 768 := (y 1).isLt
  constructor
  · intro hh
    have a := hh 0
    change 1024 * k ≤ (y 0).val ∧ (y 0).val < 1024 * k + 1024 at a
    omega
  · intro hh a
    match a with
    | ⟨0, _⟩ => show 1024 * k ≤ (y 0).val ∧ (y 0).val < 1024 * k + 1024; omega
    | ⟨1, _⟩ => show 0 ≤ (y 1).val ∧ (y 1).val < 0 + 768; omega

theorem mem_gS (k : ℕ) (h : ∀ a, (![k, 0, 0] : Fin 3 → ℕ) a + S1x1024x128.size a ≤ S4x1024x128.size a) (p) (y : S4x1024x128.Idx) :
    y ∈ ((gB.slice (Rect.unit (s := S4x1024x128) ![k, 0, 0] S1x1024x128.size h) p).squeeze S1024x128 squeezes_S1x1024x128_S1024x128).view.set ↔ (y 0).val = k := by
  rw [show ((gB.slice (Rect.unit (s := S4x1024x128) ![k, 0, 0] S1x1024x128.size h) p).squeeze S1024x128 squeezes_S1x1024x128_S1024x128).view.set
      = (Rect.unit (s := S4x1024x128) ![k, 0, 0] S1x1024x128.size h).set from (View.set_reshape _ _).trans (View.set_slice_whole _ _), Rect.mem_set_unit]
  have h1 : (y 1).val < 1024 := (y 1).isLt
  have h2 : (y 2).val < 128 := (y 2).isLt
  constructor
  · intro hh
    have a := hh 0
    change k ≤ (y 0).val ∧ (y 0).val < k + 1 at a
    omega
  · intro hh a
    match a with
    | ⟨0, _⟩ => show k ≤ (y 0).val ∧ (y 0).val < k + 1; omega
    | ⟨1, _⟩ => show 0 ≤ (y 1).val ∧ (y 1).val < 0 + 1024; omega
    | ⟨2, _⟩ => show 0 ≤ (y 2).val ∧ (y 2).val < 0 + 128; omega

theorem mem_oS (k : ℕ) (h : ∀ a, (![k, 0, 0] : Fin 3 → ℕ) a + S1x1024x768.size a ≤ S4x1024x768.size a) (p) (y : S4x1024x768.Idx) :
    y ∈ ((oB.slice (Rect.unit (s := S4x1024x768) ![k, 0, 0] S1x1024x768.size h) p).squeeze S1024x768 squeezes_S1x1024x768_S1024x768).view.set ↔ (y 0).val = k := by
  rw [show ((oB.slice (Rect.unit (s := S4x1024x768) ![k, 0, 0] S1x1024x768.size h) p).squeeze S1024x768 squeezes_S1x1024x768_S1024x768).view.set
      = (Rect.unit (s := S4x1024x768) ![k, 0, 0] S1x1024x768.size h).set from (View.set_reshape _ _).trans (View.set_slice_whole _ _), Rect.mem_set_unit]
  have h1 : (y 1).val < 1024 := (y 1).isLt
  have h2 : (y 2).val < 768 := (y 2).isLt
  constructor
  · intro hh
    have a := hh 0
    change k ≤ (y 0).val ∧ (y 0).val < k + 1 at a
    omega
  · intro hh a
    match a with
    | ⟨0, _⟩ => show k ≤ (y 0).val ∧ (y 0).val < k + 1; omega
    | ⟨1, _⟩ => show 0 ≤ (y 1).val ∧ (y 1).val < 0 + 1024; omega
    | ⟨2, _⟩ => show 0 ≤ (y 2).val ∧ (y 2).val < 0 + 768; omega

/-- The buffer held whole is its eight row blocks. -/
theorem split_gR (f : Bf (F := F) d tcG) : pt d tcG f = iprop(ps d gR0 f ∗ ps d gR1 f ∗ ps d gR2 f ∗ ps d gR3 f ∗ ps d gR4 f ∗ ps d gR5 f ∗ ps d gR6 f ∗ ps d gR7 f) := by
  have h := pieces (F := F) (ℓ := tcG.view.loc (T d : Thread nD τ)) (n := 8)
    (fun | 0 => gR0.view.set | 1 => gR1.view.set | 2 => gR2.view.set | 3 => gR3.view.set | 4 => gR4.view.set | 5 => gR5.view.set | 6 => gR6.view.set | 7 => gR7.view.set)
    (fun y : S8192x128.Idx => ⟨(y 0).val / 1024, by have h : (y 0).val < 8192 := (y 0).isLt; omega⟩)
    (fun k (y : S8192x128.Idx) => match k with
      | 0 => (mem_gR 0 0 rfl inb_S8192x128_S1024x128_0_0 (fun _ => rfl) y).trans (Fin.ext_iff (a := (⟨(y 0).val / 1024, _⟩ : Fin 8)) (b := 0)).symm
      | 1 => (mem_gR 1 1024 rfl inb_S8192x128_S1024x128_1024_0 (fun _ => rfl) y).trans (Fin.ext_iff (a := (⟨(y 0).val / 1024, _⟩ : Fin 8)) (b := 1)).symm
      | 2 => (mem_gR 2 2048 rfl inb_S8192x128_S1024x128_2048_0 (fun _ => rfl) y).trans (Fin.ext_iff (a := (⟨(y 0).val / 1024, _⟩ : Fin 8)) (b := 2)).symm
      | 3 => (mem_gR 3 3072 rfl inb_S8192x128_S1024x128_3072_0 (fun _ => rfl) y).trans (Fin.ext_iff (a := (⟨(y 0).val / 1024, _⟩ : Fin 8)) (b := 3)).symm
      | 4 => (mem_gR 4 4096 rfl inb_S8192x128_S1024x128_4096_0 (fun _ => rfl) y).trans (Fin.ext_iff (a := (⟨(y 0).val / 1024, _⟩ : Fin 8)) (b := 4)).symm
      | 5 => (mem_gR 5 5120 rfl inb_S8192x128_S1024x128_5120_0 (fun _ => rfl) y).trans (Fin.ext_iff (a := (⟨(y 0).val / 1024, _⟩ : Fin 8)) (b := 5)).symm
      | 6 => (mem_gR 6 6144 rfl inb_S8192x128_S1024x128_6144_0 (fun _ => rfl) y).trans (Fin.ext_iff (a := (⟨(y 0).val / 1024, _⟩ : Fin 8)) (b := 6)).symm
      | 7 => (mem_gR 7 7168 rfl inb_S8192x128_S1024x128_7168_0 (fun _ => rfl) y).trans (Fin.ext_iff (a := (⟨(y 0).val / 1024, _⟩ : Fin 8)) (b := 7)).symm) f
  exact h.trans (bigSep_eight _)

/-- The buffer held whole is its eight row blocks. -/
theorem split_oR (f : Bf (F := F) d tcO) : pt d tcO f = iprop(ps d oR0 f ∗ ps d oR1 f ∗ ps d oR2 f ∗ ps d oR3 f ∗ ps d oR4 f ∗ ps d oR5 f ∗ ps d oR6 f ∗ ps d oR7 f) := by
  have h := pieces (F := F) (ℓ := tcO.view.loc (T d : Thread nD τ)) (n := 8)
    (fun | 0 => oR0.view.set | 1 => oR1.view.set | 2 => oR2.view.set | 3 => oR3.view.set | 4 => oR4.view.set | 5 => oR5.view.set | 6 => oR6.view.set | 7 => oR7.view.set)
    (fun y : S8192x768.Idx => ⟨(y 0).val / 1024, by have h : (y 0).val < 8192 := (y 0).isLt; omega⟩)
    (fun k (y : S8192x768.Idx) => match k with
      | 0 => (mem_oR 0 0 rfl inb_S8192x768_S1024x768_0_0 (fun _ => rfl) y).trans (Fin.ext_iff (a := (⟨(y 0).val / 1024, _⟩ : Fin 8)) (b := 0)).symm
      | 1 => (mem_oR 1 1024 rfl inb_S8192x768_S1024x768_1024_0 (fun _ => rfl) y).trans (Fin.ext_iff (a := (⟨(y 0).val / 1024, _⟩ : Fin 8)) (b := 1)).symm
      | 2 => (mem_oR 2 2048 rfl inb_S8192x768_S1024x768_2048_0 (fun _ => rfl) y).trans (Fin.ext_iff (a := (⟨(y 0).val / 1024, _⟩ : Fin 8)) (b := 2)).symm
      | 3 => (mem_oR 3 3072 rfl inb_S8192x768_S1024x768_3072_0 (fun _ => rfl) y).trans (Fin.ext_iff (a := (⟨(y 0).val / 1024, _⟩ : Fin 8)) (b := 3)).symm
      | 4 => (mem_oR 4 4096 rfl inb_S8192x768_S1024x768_4096_0 (fun _ => rfl) y).trans (Fin.ext_iff (a := (⟨(y 0).val / 1024, _⟩ : Fin 8)) (b := 4)).symm
      | 5 => (mem_oR 5 5120 rfl inb_S8192x768_S1024x768_5120_0 (fun _ => rfl) y).trans (Fin.ext_iff (a := (⟨(y 0).val / 1024, _⟩ : Fin 8)) (b := 5)).symm
      | 6 => (mem_oR 6 6144 rfl inb_S8192x768_S1024x768_6144_0 (fun _ => rfl) y).trans (Fin.ext_iff (a := (⟨(y 0).val / 1024, _⟩ : Fin 8)) (b := 6)).symm
      | 7 => (mem_oR 7 7168 rfl inb_S8192x768_S1024x768_7168_0 (fun _ => rfl) y).trans (Fin.ext_iff (a := (⟨(y 0).val / 1024, _⟩ : Fin 8)) (b := 7)).symm) f
  exact h.trans (bigSep_eight _)

/-- The ring held whole is its four slots. -/
theorem split_gS (f : Bf (F := F) d gB) : pt d gB f = iprop(ps d gS0 f ∗ ps d gS1 f ∗ ps d gS2 f ∗ ps d gS3 f) := by
  have h := pieces (F := F) (ℓ := gB.view.loc (T d : Thread nD τ)) (n := 4)
    (fun | 0 => gS0.view.set | 1 => gS1.view.set | 2 => gS2.view.set | 3 => gS3.view.set)
    (fun y : S4x1024x128.Idx => ⟨(y 0).val, (y 0).isLt⟩)
    (fun k (y : S4x1024x128.Idx) => match k with
      | 0 => (mem_gS 0 inb_S4x1024x128_S1x1024x128_0_0_0 (fun _ => rfl) y).trans (Fin.ext_iff (a := (⟨(y 0).val, _⟩ : Fin 4)) (b := 0)).symm
      | 1 => (mem_gS 1 inb_S4x1024x128_S1x1024x128_1_0_0 (fun _ => rfl) y).trans (Fin.ext_iff (a := (⟨(y 0).val, _⟩ : Fin 4)) (b := 1)).symm
      | 2 => (mem_gS 2 inb_S4x1024x128_S1x1024x128_2_0_0 (fun _ => rfl) y).trans (Fin.ext_iff (a := (⟨(y 0).val, _⟩ : Fin 4)) (b := 2)).symm
      | 3 => (mem_gS 3 inb_S4x1024x128_S1x1024x128_3_0_0 (fun _ => rfl) y).trans (Fin.ext_iff (a := (⟨(y 0).val, _⟩ : Fin 4)) (b := 3)).symm) f
  exact h.trans (bigSep_four _)
/-- Its four slots, each at some contents, are the ring at some contents. -/
theorem join_gS [∀ e, Nonempty (Elt F e)] : iprop((∃ f, ps d gS0 f) ∗ (∃ f, ps d gS1 f) ∗ (∃ f, ps d gS2 f) ∗ (∃ f, ps d gS3 f)) ⊢ (iprop(∃ f, pt d gB f) : sProp 𝕄) := by
  have h := unpieces (F := F) (ℓ := gB.view.loc (T d : Thread nD τ)) (n := 3)
    (fun | 0 => gS0.view.set | 1 => gS1.view.set | 2 => gS2.view.set | 3 => gS3.view.set)
    (fun y : S4x1024x128.Idx => ⟨(y 0).val, (y 0).isLt⟩)
    (fun k (y : S4x1024x128.Idx) => match k with
      | 0 => (mem_gS 0 inb_S4x1024x128_S1x1024x128_0_0_0 (fun _ => rfl) y).trans (Fin.ext_iff (a := (⟨(y 0).val, _⟩ : Fin 4)) (b := 0)).symm
      | 1 => (mem_gS 1 inb_S4x1024x128_S1x1024x128_1_0_0 (fun _ => rfl) y).trans (Fin.ext_iff (a := (⟨(y 0).val, _⟩ : Fin 4)) (b := 1)).symm
      | 2 => (mem_gS 2 inb_S4x1024x128_S1x1024x128_2_0_0 (fun _ => rfl) y).trans (Fin.ext_iff (a := (⟨(y 0).val, _⟩ : Fin 4)) (b := 2)).symm
      | 3 => (mem_gS 3 inb_S4x1024x128_S1x1024x128_3_0_0 (fun _ => rfl) y).trans (Fin.ext_iff (a := (⟨(y 0).val, _⟩ : Fin 4)) (b := 3)).symm)
  exact (Entails.of_eq (bigSep_four _).symm).trans h

/-- The ring held whole is its four slots. -/
theorem split_oS (f : Bf (F := F) d oB) : pt d oB f = iprop(ps d oS0 f ∗ ps d oS1 f ∗ ps d oS2 f ∗ ps d oS3 f) := by
  have h := pieces (F := F) (ℓ := oB.view.loc (T d : Thread nD τ)) (n := 4)
    (fun | 0 => oS0.view.set | 1 => oS1.view.set | 2 => oS2.view.set | 3 => oS3.view.set)
    (fun y : S4x1024x768.Idx => ⟨(y 0).val, (y 0).isLt⟩)
    (fun k (y : S4x1024x768.Idx) => match k with
      | 0 => (mem_oS 0 inb_S4x1024x768_S1x1024x768_0_0_0 (fun _ => rfl) y).trans (Fin.ext_iff (a := (⟨(y 0).val, _⟩ : Fin 4)) (b := 0)).symm
      | 1 => (mem_oS 1 inb_S4x1024x768_S1x1024x768_1_0_0 (fun _ => rfl) y).trans (Fin.ext_iff (a := (⟨(y 0).val, _⟩ : Fin 4)) (b := 1)).symm
      | 2 => (mem_oS 2 inb_S4x1024x768_S1x1024x768_2_0_0 (fun _ => rfl) y).trans (Fin.ext_iff (a := (⟨(y 0).val, _⟩ : Fin 4)) (b := 2)).symm
      | 3 => (mem_oS 3 inb_S4x1024x768_S1x1024x768_3_0_0 (fun _ => rfl) y).trans (Fin.ext_iff (a := (⟨(y 0).val, _⟩ : Fin 4)) (b := 3)).symm) f
  exact h.trans (bigSep_four _)
/-- Its four slots, each at some contents, are the ring at some contents. -/
theorem join_oS [∀ e, Nonempty (Elt F e)] : iprop((∃ f, ps d oS0 f) ∗ (∃ f, ps d oS1 f) ∗ (∃ f, ps d oS2 f) ∗ (∃ f, ps d oS3 f)) ⊢ (iprop(∃ f, pt d oB f) : sProp 𝕄) := by
  have h := unpieces (F := F) (ℓ := oB.view.loc (T d : Thread nD τ)) (n := 3)
    (fun | 0 => oS0.view.set | 1 => oS1.view.set | 2 => oS2.view.set | 3 => oS3.view.set)
    (fun y : S4x1024x768.Idx => ⟨(y 0).val, (y 0).isLt⟩)
    (fun k (y : S4x1024x768.Idx) => match k with
      | 0 => (mem_oS 0 inb_S4x1024x768_S1x1024x768_0_0_0 (fun _ => rfl) y).trans (Fin.ext_iff (a := (⟨(y 0).val, _⟩ : Fin 4)) (b := 0)).symm
      | 1 => (mem_oS 1 inb_S4x1024x768_S1x1024x768_1_0_0 (fun _ => rfl) y).trans (Fin.ext_iff (a := (⟨(y 0).val, _⟩ : Fin 4)) (b := 1)).symm
      | 2 => (mem_oS 2 inb_S4x1024x768_S1x1024x768_2_0_0 (fun _ => rfl) y).trans (Fin.ext_iff (a := (⟨(y 0).val, _⟩ : Fin 4)) (b := 2)).symm
      | 3 => (mem_oS 3 inb_S4x1024x768_S1x1024x768_3_0_0 (fun _ => rfl) y).trans (Fin.ext_iff (a := (⟨(y 0).val, _⟩ : Fin 4)) (b := 3)).symm)
  exact (Entails.of_eq (bigSep_four _).symm).trans h

end Cert.KernelIdeal.Gather

end
-- ==== Proof.TcRegion.lean ====
module
public import proofs.«01_k».proof.Proof.TcRun
public import proofs.«01_k».proof.Proof.TcSplit
public import proofs.«01_k».proof.Proof.Gen.KernelIdeal.Points

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

open Idealize.ShloMosaic.Pipeline (Dat BodyObligation)

variable [FloatOps F] (m : (ℓ : Loc nD τ sig) → Buf (Elt F) ℓ)

/-! # The TensorCore call: its region over the thread state -/

/-- What the call leaves of the result, from the launch memory. -/
abbrev res (c : Dev nD) : Buf (Elt F) ((SparseCore.T c : Thread nD τ).loc main_v1) :=
  outF (m ((SparseCore.T c : Thread nD τ).loc main_arg1)) (m ((SparseCore.T c : Thread nD τ).loc main_arg3)) (m ((SparseCore.T c : Thread nD τ).loc main_arg4)) (m ((SparseCore.T c : Thread nD τ).loc main_arg5)) (m ((SparseCore.T c : Thread nD τ).loc main_arg6)) (gOf m c)

/-- The ring semaphores. -/
abbrev osem : Fin 8 → SemLoc sig
  | 0 => .dma gi0.sem | 1 => .dma gi1.sem | 2 => .dma gi2.sem | 3 => .dma gi3.sem
  | 4 => .dma oo0.sem | 5 => .dma oo1.sem | 6 => .dma oo2.sem | 7 => .dma oo3.sem

theorem osemFacts : Pipeline.OwnSemFacts spec1 osem := by decide

/-- The ring semaphores at zero. -/
abbrev sems0 (c : Dev nD) : sProp 𝕄 := Pipeline.ownSems0 osem c

omit [FloatOps F] in
theorem sems0_eq (c : Dev nD) : (sems0 c : sProp 𝕄)
    = iprop(semVal (T c, .dma (gi0).sem) 0 ∗ semVal (T c, .dma (gi1).sem) 0 ∗ semVal (T c, .dma (gi2).sem) 0 ∗ semVal (T c, .dma (gi3).sem) 0
        ∗ semVal (T c, .dma (oo0).sem) 0 ∗ semVal (T c, .dma (oo1).sem) 0 ∗ semVal (T c, .dma (oo2).sem) 0 ∗ semVal (T c, .dma (oo3).sem) 0) :=
  bigSep_eight _

/-- A buffer of a TensorCore, whole at contents `f`. -/
abbrev pl (c : Dev nD) (b : Ref sig .tc) (f : Buf (Elt F) ((SparseCore.T c : Thread nD τ).loc b)) : sProp 𝕄 := (SparseCore.T c : Thread nD τ).loc b ↦{fullShare} f

/-- The invariant around the body: the gathered array, the result at `f`, the two rings and their semaphores. -/
abbrev Phi (c : Dev nD) (f : Buf (Elt F) ((SparseCore.T c : Thread nD τ).loc main_v1)) : sProp 𝕄 :=
  iprop(levAts (K (F := F)).L (K (F := F)).lev ∗ pl c main_v0 (gOf m c) ∗ pl c main_v1 f ∗ sems0 c
    ∗ (∃ f, pl c cc1_scratch0 f) ∗ (∃ f, pl c cc1_scratch1 f))

/-- The region's proof data: the five operands at their launch contents, left as fetched; the result written between the ends. -/
def dat (c : Dev nD) : Dat τ (Elt F) (HIx 1) ℕ UU ℕ cfg1 c where
  A w := m ((SparseCore.T c : Thread nD τ).loc (Pipeline.arrRef spec1 w))
  after w _ := match w with
    | ⟨0, _⟩ => m ((SparseCore.T c : Thread nD τ).loc main_arg1)
    | ⟨1, _⟩ => m ((SparseCore.T c : Thread nD τ).loc main_arg3)
    | ⟨2, _⟩ => m ((SparseCore.T c : Thread nD τ).loc main_arg4)
    | ⟨3, _⟩ => m ((SparseCore.T c : Thread nD τ).loc main_arg5)
    | ⟨4, _⟩ => m ((SparseCore.T c : Thread nD τ).loc main_arg6)
  Φ t := if t.val = 0 then Phi m c (m ((SparseCore.T c : Thread nD τ).loc main_v1)) else Phi m c (res m c)
  q _ := fullShare
  owed _ := 0

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => dat m

theorem Phi_first (c : Dev nD) : (dat m c).Φ t1_0.castSucc = Phi m c (m ((SparseCore.T c : Thread nD τ).loc main_v1)) := by dsimp only [dat]; exact if_pos rfl
theorem Phi_next (c : Dev nD) : (dat m c).Φ t1_0.succ = Phi m c (res m c) := by dsimp only [dat]; exact if_neg (by decide)

theorem before_0 (c : Dev nD) (d : (cfg1.win 0).block.Idx → Elt F (cfg1.win 0).elt) : (dat m c).before 0 t1_0 d = m ((SparseCore.T c : Thread nD τ).loc main_arg1) := by
  unfold Dat.before; rw [if_pos (by decide)]
  funext j
  exact congrArg (m ((SparseCore.T c : Thread nD τ).loc main_arg1)) (funext fun a => Fin.ext (show 0 * S4x2048.size a + 1 * (j a).val = (j a).val by omega))
theorem before_1 (c : Dev nD) (d : (cfg1.win 1).block.Idx → Elt F (cfg1.win 1).elt) : (dat m c).before 1 t1_0 d = m ((SparseCore.T c : Thread nD τ).loc main_arg3) := by
  unfold Dat.before; rw [if_pos (by decide)]
  funext j
  exact congrArg (m ((SparseCore.T c : Thread nD τ).loc main_arg3)) (funext fun a => Fin.ext (show 0 * S2x128.size a + 1 * (j a).val = (j a).val by omega))
theorem before_2 (c : Dev nD) (d : (cfg1.win 2).block.Idx → Elt F (cfg1.win 2).elt) : (dat m c).before 2 t1_0 d = m ((SparseCore.T c : Thread nD τ).loc main_arg4) := by
  unfold Dat.before; rw [if_pos (by decide)]
  funext j
  exact congrArg (m ((SparseCore.T c : Thread nD τ).loc main_arg4)) (funext fun a => Fin.ext (show 0 * S768x128.size a + 1 * (j a).val = (j a).val by omega))
theorem before_3 (c : Dev nD) (d : (cfg1.win 3).block.Idx → Elt F (cfg1.win 3).elt) : (dat m c).before 3 t1_0 d = m ((SparseCore.T c : Thread nD τ).loc main_arg5) := by
  unfold Dat.before; rw [if_pos (by decide)]
  funext j
  exact congrArg (m ((SparseCore.T c : Thread nD τ).loc main_arg5)) (funext fun a => Fin.ext (show 0 * S768.size a + 1 * (j a).val = (j a).val by omega))
theorem before_4 (c : Dev nD) (d : (cfg1.win 4).block.Idx → Elt F (cfg1.win 4).elt) : (dat m c).before 4 t1_0 d = m ((SparseCore.T c : Thread nD τ).loc main_arg6) := by
  unfold Dat.before; rw [if_pos (by decide)]
  funext j
  exact congrArg (m ((SparseCore.T c : Thread nD τ).loc main_arg6)) (funext fun a => Fin.ext (show 0 * S768.size a + 1 * (j a).val = (j a).val by omega))

/-- The body obligation: the buffers taken apart into row blocks and ring slots, the kernel's run, and put together again. -/
theorem body_obligation [∀ e, Nonempty (Elt F e)] (c : Dev nD) : BodyObligation (dat m c) (defs₀ (F := F)) 𝒱₀ none Set.univ := fun t => by
  obtain rfl := fin_N1 t
  rw [bigSep_W1, bigSep_W1]
  simp only [owns_whole_eq]
  rw [Phi_first, Phi_next, show (dat m c).owesAt none t1_0.succ = (dat m c).owesAt none t1_0.castSucc from rfl]
  unfold Dat.owesAt Pipeline.owesWithin
  iintro ⟨⟨#Hlv, Hg, Ho, Hs, ⟨%gb, Hgb⟩, ⟨%ob, Hob⟩⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before_0] at hf0; rw [before_1] at hf1; rw [before_2] at hf2; rw [before_3] at hf3; rw [before_4] at hf4
  subst hf0 hf1 hf2 hf3 hf4
  ihave Hmw := (show levAts (K (F := F)).L (K (F := F)).lev ⊢ Transfers.MayWaits (T c) (default : HIx 1) 0 from
    (K (F := F)).mayWaits_none (thr := T c) (fun _ => rfl)) $$ Hlv
  ihave Hg' := (Entails.of_eq (split_gR (F := F) c _)) $$ Hg
  ihave Ho' := (Entails.of_eq (split_oR (F := F) c _)) $$ Ho
  ihave Hgb' := (Entails.of_eq (split_gS (F := F) c _)) $$ Hgb
  ihave Hob' := (Entails.of_eq (split_oS (F := F) c _)) $$ Hob
  ihave Hs' := (Entails.of_eq (sems0_eq (F := F) c)) $$ Hs
  icases Hg' with ⟨Hgr0, Hgr1, Hgr2, Hgr3, Hgr4, Hgr5, Hgr6, Hgr7⟩
  icases Ho' with ⟨Hor0, Hor1, Hor2, Hor3, Hor4, Hor5, Hor6, Hor7⟩
  icases Hgb' with ⟨Hgs0, Hgs1, Hgs2, Hgs3⟩
  icases Hob' with ⟨Hos0, Hos1, Hos2, Hos3⟩
  icases Hs' with ⟨Hi0, Hi1, Hi2, Hi3, Ho0, Ho1, Ho2, Ho3⟩
  iapply (wp_wand_r frame _ _)
  isplitr []
  · iapply (tc_core (F := F) c 0 W (m ((SparseCore.T c : Thread nD τ).loc main_arg1)) (m ((SparseCore.T c : Thread nD τ).loc main_arg3)) (m ((SparseCore.T c : Thread nD τ).loc main_arg4)) (m ((SparseCore.T c : Thread nD τ).loc main_arg5)) (m ((SparseCore.T c : Thread nD τ).loc main_arg6))
      (gOf m c) (m ((SparseCore.T c : Thread nD τ).loc main_v1)) gb ob)
    isplitr; · iexact Hmw
    isplitl [H0]; · iexact H0
    isplitl [H1]; · iexact H1
    isplitl [H2]; · iexact H2
    isplitl [H3]; · iexact H3
    isplitl [H4]; · iexact H4
    isplitl [Hgr0]; · iexact Hgr0
    isplitl [Hgr1]; · iexact Hgr1
    isplitl [Hgr2]; · iexact Hgr2
    isplitl [Hgr3]; · iexact Hgr3
    isplitl [Hgr4]; · iexact Hgr4
    isplitl [Hgr5]; · iexact Hgr5
    isplitl [Hgr6]; · iexact Hgr6
    isplitl [Hgr7]; · iexact Hgr7
    isplitl [Hor0]; · iexact Hor0
    isplitl [Hor1]; · iexact Hor1
    isplitl [Hor2]; · iexact Hor2
    isplitl [Hor3]; · iexact Hor3
    isplitl [Hor4]; · iexact Hor4
    isplitl [Hor5]; · iexact Hor5
    isplitl [Hor6]; · iexact Hor6
    isplitl [Hor7]; · iexact Hor7
    isplitl [Hgs0]; · iexact Hgs0
    isplitl [Hgs1]; · iexact Hgs1
    isplitl [Hgs2]; · iexact Hgs2
    isplitl [Hgs3]; · iexact Hgs3
    isplitl [Hos0]; · iexact Hos0
    isplitl [Hos1]; · iexact Hos1
    isplitl [Hos2]; · iexact Hos2
    isplitl [Hos3]; · iexact Hos3
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    isplitl [Ho3]; · iexact Ho3
    iexact HO
  iintro %u ⟨H0, H1, H2, H3, H4, Hgr0, Hgr1, Hgr2, Hgr3, Hgr4, Hgr5, Hgr6, Hgr7, Hor0, Hor1, Hor2, Hor3, Hor4, Hor5, Hor6, Hor7, Hgs0, Hgs1, Hgs2, Hgs3, Hos0, Hos1, Hos2, Hos3, Hi0, Hi1, Hi2, Hi3, Ho0, Ho1, Ho2, Ho3, %W', -, HO⟩
  ihave Hg := (Entails.of_eq (split_gR (F := F) c _).symm) $$ [Hgr0 Hgr1 Hgr2 Hgr3 Hgr4 Hgr5 Hgr6 Hgr7]
  · isplitl [Hgr0]; · iexact Hgr0
    isplitl [Hgr1]; · iexact Hgr1
    isplitl [Hgr2]; · iexact Hgr2
    isplitl [Hgr3]; · iexact Hgr3
    isplitl [Hgr4]; · iexact Hgr4
    isplitl [Hgr5]; · iexact Hgr5
    isplitl [Hgr6]; · iexact Hgr6
    iexact Hgr7
  ihave Ho := (Entails.of_eq (split_oR (F := F) c _).symm) $$ [Hor0 Hor1 Hor2 Hor3 Hor4 Hor5 Hor6 Hor7]
  · isplitl [Hor0]; · iexact Hor0
    isplitl [Hor1]; · iexact Hor1
    isplitl [Hor2]; · iexact Hor2
    isplitl [Hor3]; · iexact Hor3
    isplitl [Hor4]; · iexact Hor4
    isplitl [Hor5]; · iexact Hor5
    isplitl [Hor6]; · iexact Hor6
    iexact Hor7
  ihave Hgb := (join_gS (F := F) c) $$ [Hgs0 Hgs1 Hgs2 Hgs3]
  · isplitl [Hgs0]; · iexact Hgs0
    isplitl [Hgs1]; · iexact Hgs1
    isplitl [Hgs2]; · iexact Hgs2
    iexact Hgs3
  ihave Hob := (join_oS (F := F) c) $$ [Hos0 Hos1 Hos2 Hos3]
  · isplitl [Hos0]; · iexact Hos0
    isplitl [Hos1]; · iexact Hos1
    isplitl [Hos2]; · iexact Hos2
    iexact Hos3
  ihave Hs := (Entails.of_eq (sems0_eq (F := F) c).symm) $$ [Hi0 Hi1 Hi2 Hi3 Ho0 Ho1 Ho2 Ho3]
  · isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  isplitl [Hg Ho Hgb Hob Hs]
  · isplitr; · iexact Hlv
    isplitl [Hg]; · iexact Hg
    isplitl [Ho]; · iexact Ho
    isplitl [Hs]; · iexact Hs
    isplitl [Hgb]; · iexact Hgb
    iexact Hob
  isplitl [HO]
  · iexists W'; isplitr; · ipureintro; exact fun _ _ => Or.inl trivial
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro; rfl

/-! # The region -/

/-- The five operands, whole at their launch contents. -/
abbrev ops (c : Dev nD) : sProp 𝕄 :=
  iprop(pl c main_arg1 (m ((SparseCore.T c : Thread nD τ).loc main_arg1)) ∗ pl c main_arg3 (m ((SparseCore.T c : Thread nD τ).loc main_arg3)) ∗ pl c main_arg4 (m ((SparseCore.T c : Thread nD τ).loc main_arg4)) ∗ pl c main_arg5 (m ((SparseCore.T c : Thread nD τ).loc main_arg5)) ∗ pl c main_arg6 (m ((SparseCore.T c : Thread nD τ).loc main_arg6)))

theorem Phi_zero (c : Dev nD) : (pdats m 0 c).Φ 0 = Phi m c (m ((SparseCore.T c : Thread nD τ).loc main_v1)) := Phi_first m c
theorem Phi_last (c : Dev nD) : (pdats m 0 c).Φ (Fin.last (Pipeline.pin (pcfgs (F := F)) adm 0).N) = Phi m c (res m c) := by
  rw [show Fin.last (Pipeline.pin (pcfgs (F := F)) adm 0).N = t1_0.succ from Fin.ext N_1]; exact Phi_next m c

theorem arrays_ops (c : Dev nD) (n : ℕ) : (pdats m 0 c).arrays ((pdats m 0 c).arrAt · n) = ops m c := by
  rw [Pipeline.arrays_eq (Pipeline.pin (pcfgs (F := F)) adm) (pdats m) 0 c launch1.arr_whole ((pdats m 0 c).share_full fun _ => rfl)]
  simp only [show ∀ w, (pdats m 0 c).arrAt w n = m ((SparseCore.T c : Thread nD τ).loc (Pipeline.arrRef spec1 w)) from fun w => (dat m c).arrAt_in w (by fin_cases w <;> rfl) n]
  exact (bigSep_W1 (fun w => ((SparseCore.T c : Thread nD τ).loc (Pipeline.arrRef spec1 w) ↦{fullShare} m ((SparseCore.T c : Thread nD τ).loc (Pipeline.arrRef spec1 w)) : sProp 𝕄)))

/-- The level facts, persistently. -/
abbrev lvs : sProp 𝕄 := levAts (K (F := F)).L (K (F := F)).lev

set_option backward.isDefEq.respectTransparency.types false in
/-- The TensorCore call as a region: from the operands, the gathered array and the result's buffer, to the same with the result written. -/
def reg [∀ e, Nonempty (Elt F e)] : Pipeline.RegionSeg (pcfgs (F := F)) adm (pdats m) none (defs₀ (F := F)) 𝒱₀ (K (F := F)).L (K (F := F)).lev 0 where
  win := launch1.win.to₀
  block_pos := launch1.block_pos
  stage_whole := launch1.stage_whole
  K := Fin 8
  osem := osem
  ho := osemFacts
  hbody c := (body_obligation m c).loose
  hwaits := Pipeline.hwaits_of_owed_zero _ _ _ _ (K (F := F)).L (K (F := F)).lev 0 fun _ _ => rfl
  pre c := iprop(ops m c ∗ (pl c main_v0 (gOf m c) ∗ pl c main_v1 (m ((SparseCore.T c : Thread nD τ).loc main_v1))) ∗ ∃ W, owes (SparseCore.T c : Thread nD τ) (0 : CellTallies nD τ sig (HIx 1)) W)
  post c := iprop(ops m c ∗ (pl c main_v0 (gOf m c) ∗ pl c main_v1 (res m c)) ∗ ∃ W, owes (SparseCore.T c : Thread nD τ) (0 : CellTallies nD τ sig (HIx 1)) W)
  X c := iprop(lvs ∗ pl c main_v0 (gOf m c) ∗ pl c main_v1 (m ((SparseCore.T c : Thread nD τ).loc main_v1)) ∗ sems0 c)
  Y c := iprop(pl c main_v0 (gOf m c) ∗ pl c main_v1 (res m c))
  Z _ := BI.emp
  hentry c := by
    rw [arrays_ops]
    iintro ⟨⟨Ha, ⟨Hg, Ho⟩, HO⟩, Hs, #Hlv⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl
    · isplitr; · iexact Hlv
      isplitl [Hg]; · iexact Hg
      isplitl [Ho]; · iexact Ho
      iexact Hs
    iempintro
  hin c := by
    rw [Phi_zero]
    refine (sep_mono_right (sep_mono_right (Entails.of_eq (scopedRest1_eq c)))).trans ?_
    iintro ⟨⟨#Hlv, Hg, Ho, Hs⟩, -, Hr0, Hr1⟩
    isplitr; · iexact Hlv
    isplitl [Hg]; · iexact Hg
    isplitl [Ho]; · iexact Ho
    isplitl [Hs]; · iexact Hs
    isplitl [Hr0]; · iexact Hr0
    iexact Hr1
  hout c := by
    rw [Phi_last]
    refine BIBase.Entails.trans ?_ (sep_mono_right (sep_mono_right (Entails.of_eq (scopedRest1_eq c).symm)))
    iintro ⟨-, Hg, Ho, Hs, Hr0, Hr1⟩
    isplitl [Hg Ho]
    · isplitl [Hg]; · iexact Hg
      iexact Ho
    isplitl [Hs]; · iexact Hs
    isplitl [Hr0]; · iexact Hr0
    iexact Hr1
  hexit c := by
    rw [arrays_ops]
    iintro ⟨Ha, HO, Hy, -⟩
    imodintro
    isplitl [Ha]; · iexact Ha
    isplitl [Hy]; · iexact Hy
    unfold Pipeline.Dat.owesAt Pipeline.owesWithin
    icases HO with ⟨%W, -, HO⟩; iexists W; iexact HO

end Cert.KernelIdeal.Gather

end
-- ==== Proof.Run.lean ====
module
public import proofs.«01_k».proof.Proof.TcRegion

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources of the proof. -/
local notation "𝕄" => MT nD τ sig (HIx 1) (Elt F) ℕ UU ℕ

open Idealize.ShloMosaic.Pipeline (Dat BodyObligation)

variable [FloatOps F] (m : (ℓ : Loc nD τ sig) → Buf (Elt F) ℓ)

open Idealize.ShloMosaic.StableHlo (held wp_hlo_within)

variable (ρ : Dev nD → PrngReg)

/-! # The launch element: the handshakes' rounds and the staging pipeline's -/

theorem phinj : Function.Injective (Pipeline.cellOf (nD := nD) (τ := τ) (Pipeline.pin (pcfgs (F := F)) adm)) := cellOf_inj

def u₀ : UU := (initOf (K (F := F)).hsCells (K (F := F)).hsToks, (initOf (Pipeline.cells (Pipeline.pin (pcfgs (F := F)) adm) phinj) (Pipeline.launchToks (Pipeline.pin (pcfgs (F := F)) adm) phinj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op _)))

/-- What the launch deals a TensorCore: the staging cells' rounds and their transfers' tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) EP phinj) $$ HP with ⟨Hc, Ht⟩
  imodintro
  isplitl [HH]; · iexact HH
  isplitl [Hc Ht]
  · rw [bigSep_sep']
    simp only [show ∀ Φ : Fin 1 → sProp 𝕄, bigSep Finset.univ Φ = Φ 0 from fun Φ => bigSep_univ_of_subsingleton (0 : Fin 1)]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! # @main on the TensorCore -/

omit [FloatOps F] in
theorem unscopedBufs_eq (d : Dev nD) (W : (b : Ref sig .tc) → Buf (Elt F) ((d.tc : Thread nD τ).loc b)) :
    (unscopedBufs d W : sProp 𝕄) = iprop(pl d main_arg0 (W main_arg0) ∗ pl d main_arg1 (W main_arg1) ∗ pl d main_arg2 (W main_arg2) ∗ pl d main_arg3 (W main_arg3) ∗ pl d main_arg4 (W main_arg4) ∗ pl d main_arg5 (W main_arg5) ∗ pl d main_arg6 (W main_arg6) ∗ pl d main_v0 (W main_v0) ∗ pl d main_v1 (W main_v1) ∗ pl d main_v2 (W main_v2)) := by
  unfold unscopedBufs
  rw [show (Finset.univ.filter fun b : Ref sig .tc => ¬ b.isScoped) = {main_arg0, main_arg1, main_arg2, main_arg3, main_arg4, main_arg5, main_arg6, main_v0, main_v1, main_v2} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev v1' : DevRef τ sig := Proc.devRef .tc (main_v1 : Ref sig .tc)
abbrev v2' : DevRef τ sig := Proc.devRef .tc (main_v2 : Ref sig .tc)
/-- The host reshape of the call's result. -/
abbrev opR : HloOp τ sig (Elt F) := StableHlo.reshape main_v1 main_v2 (rfl : (.f32 : EltTy) = .f32) shapeCasts_S8192x768_S4x2048x768
abbrev S2 : Finset (DevRef τ sig) := {v1', v2'}
theorem hR : (opR (F := F)).bufs ⊆ S2 := show ({v1', v2'} : Finset (DevRef τ sig)) ⊆ S2 by decide

/-- The reshape's operands before it: the call's result written. -/
def V1 (d : Dev nD) : Valuation τ sig (Elt F) := Function.update (fun b => m (d, b)) v1' (res m d)

/-- What @main leaves in its result. -/
abbrev out (d : Dev nD) : Buf (Elt F) ((SparseCore.T d : Thread nD τ).loc main_v2) :=
  shapeCast S4x2048x768 (res m d) shapeCasts_S8192x768_S4x2048x768

theorem V1_v1 (d : Dev nD) : V1 m d v1' = res m d := Function.update_self _ _ _
theorem V1_v2 (d : Dev nD) : V1 m d v2' = m ((SparseCore.T d : Thread nD τ).loc main_v2) := Function.update_of_ne (show v2' ≠ v1' by decide) _ _

theorem held_before (d : Dev nD) : (held (T d) S2 (V1 m d) : sProp 𝕄) = iprop(pl d main_v1 (res m d) ∗ pl d main_v2 (m ((SparseCore.T d : Thread nD τ).loc main_v2))) := by
  unfold held
  rw [SparseCore.bigSep_insert' (by decide), bigSep_singleton, V1_v1, V1_v2]

theorem held_after (d : Dev nD) : (held (T d) S2 ((opR (F := F)).result (V1 m d)) : sProp 𝕄) = iprop(pl d main_v1 (res m d) ∗ pl d main_v2 (out m d)) := by
  unfold held
  rw [SparseCore.bigSep_insert' (by decide), bigSep_singleton, (opR (F := F)).result_of_not_mem (V1 m d) (b := v1') (show v1' ∉ ({v2'} : Finset (DevRef τ sig)) by decide), V1_v1,
    show (opR (F := F)).result (V1 m d) v2' = out m d from (StableHlo.reshape_result main_v1 main_v2 _ _ _ _ (V1 m d)).trans (by rw [show V1 m d (Proc.devRef .tc main_v1) = res m d from V1_v1 m d]; rfl)]

/-- What @main leaves the claim: the arguments at their launch contents, the result at its value. -/
abbrev FIN (d : Dev nD) : sProp 𝕄 := iprop(pl d main_arg0 (m ((SparseCore.T d : Thread nD τ).loc main_arg0)) ∗ pl d main_arg1 (m ((SparseCore.T d : Thread nD τ).loc main_arg1)) ∗ pl d main_arg2 (m ((SparseCore.T d : Thread nD τ).loc main_arg2)) ∗ pl d main_arg3 (m ((SparseCore.T d : Thread nD τ).loc main_arg3)) ∗ pl d main_arg4 (m ((SparseCore.T d : Thread nD τ).loc main_arg4)) ∗ pl d main_arg5 (m ((SparseCore.T d : Thread nD τ).loc main_arg5)) ∗ pl d main_arg6 (m ((SparseCore.T d : Thread nD τ).loc main_arg6)) ∗ pl d main_v2 (out m d))

/-- The TensorCore's state after the last call, its debt (none) apart. -/
theorem tcSt_owes (d : Dev nD) : ∃ R : sProp 𝕄, (K (F := F)).tcSt EH d 1 = iprop((∃ W, ⌜(K (F := F)).WBelow (T d) W (8 * 1)⌝ ∗ owes (T d) ((K (F := F)).Otc d 1) W) ∗ R) := ⟨_, rfl⟩

omit [FloatOps F] in
theorem below (d : Dev nD) (W : Waits sig (HIx 1)) : (K (F := F)).WBelow (T d) W (8 * 1) := fun p _ => by
  rcases p with ⟨s, _ | q⟩
  · exact Nat.zero_le _
  · refine ((K (F := F)).lev_some_le _ q).trans ?_
    have := q.isLt; show 8 * q.val + 7 ≤ 8 * 1; omega

theorem reg_pre [∀ e, Nonempty (Elt F e)] (c : Dev nD) : (reg m).pre c = iprop(ops m c ∗ (pl c main_v0 (gOf m c) ∗ pl c main_v1 (m ((SparseCore.T c : Thread nD τ).loc main_v1))) ∗ ∃ W, owes (SparseCore.T c : Thread nD τ) (0 : CellTallies nD τ sig (HIx 1)) W) := rfl
theorem reg_post [∀ e, Nonempty (Elt F e)] (c : Dev nD) : (reg m).post c = iprop(ops m c ∗ (pl c main_v0 (gOf m c) ∗ pl c main_v1 (res m c)) ∗ ∃ W, owes (SparseCore.T c : Thread nD τ) (0 : CellTallies nD τ sig (HIx 1)) W) := rfl

/-- @main on device `d`'s TensorCore: the SparseCore call, the TensorCore call, the reshape. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  obtain ⟨R, hR1⟩ := tcSt_owes (F := F) d
  simp only [main, wp_bind, wp_pure]
  iintro ⟨#Hctx, Hst, ⟨Hb, ⟨H0, H1, H2, H3, H4, H5, H6, Hv0, Hv1, Hv2⟩, Hts, -⟩, Hcg, Htk⟩
  ihave Hcalls := (Entails.of_eq (calls_eq m d (m (gLoc d)))) $$ [H2 H0 Hv0]
  · isplitl [H2]; · iexact H2
    isplitl [H0]; · iexact H0
    iexact Hv0
  icases Hcalls with ⟨Hsh, Hcalls⟩
  iapply ((K (F := F)).wp_run (D (F := F)) 𝒱 (EH := EH) (P := P m) κ d 0) $$ [Hst Hcalls Hsh H1 H3 H4 H5 H6 Hv1 Hv2 Hb Hts Hcg Htk]
  isplitr; · iexact Hctx
  isplitl [Hst]; · iexact Hst
  isplitl [Hcalls]; · iexact Hcalls
  iintro ⟨Hst, Hdn⟩
  ihave Hcalls := (Entails.of_eq (calls_eq m d (gOf m d)).symm) $$ [Hsh Hdn]
  · isplitl [Hsh]; · iexact Hsh
    iexact Hdn
  icases Hcalls with ⟨H2, H0, Hv0⟩
  ihave Hst := (Entails.of_eq (show (K (F := F)).tcSt EH d ((0 : Fin 1).val + 1) = _ from hR1)) $$ Hst
  rw [(K (F := F)).Otc_end d (le_refl 1)]
  icases Hst with ⟨⟨%W, -, HO⟩, HR⟩
  ihave #Hlv := ((K (F := F)).ctx_levAts (EH := EH) (P := P m) κ) $$ Hctx
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun u => .ret u) from rfl]
  iapply ((K (F := F)).wp_liftProg (D (F := F)) 𝒱 (SparseCore.T d) Set.univ none)
  iapply (Pipeline.RegionSeg.wp (pcfgs (F := F)) adm (pdats m) none phinj EP (defs₀ (F := F)) 𝒱₀ (K (F := F)).L (K (F := F)).lev (reg m) d none (fun _ h => nomatch h)
    (fun u => .ret u))
  isplitr [Hb HO Hcg Htk H1 H3 H4 H5 H6 Hv0 Hv1]
  swap
  · isplitl [Hb]; · iexact Hb
    isplitl [HO H1 H3 H4 H5 H6 Hv0 Hv1]
    · iapply (Entails.of_eq (reg_pre m d).symm)
      isplitl [H1 H3 H4 H5 H6]
      · isplitl [H1]; · iexact H1
        isplitl [H3]; · iexact H3
        isplitl [H4]; · iexact H4
        isplitl [H5]; · iexact H5
        iexact H6
      isplitl [Hv0 Hv1]
      · isplitl [Hv0]; · iexact Hv0
        iexact Hv1
      iexists W; iexact HO
    isplitr; · iexact Hlv
    isplitl [Hcg]; · iexact Hcg
    iexact Htk
  iintro ⟨Hb, Hpost⟩
  ihave Hpost := (Entails.of_eq (reg_post m d)) $$ Hpost
  icases Hpost with ⟨⟨H1, H3, H4, H5, H6⟩, ⟨Hv0, Hv1⟩, %W', HO⟩
  rw [wp_ret]; imodintro
  iapply (wp_hlo_within 𝒱 (SparseCore.T d) none Set.univ (op := opR) (S := S2) hR (V := V1 m d)) $$ [Hb Hv1 Hv2]
  · isplitl [Hb]; · iexact Hb
    rw [held_before]
    isplitl [Hv1]; · iexact Hv1
    iexact Hv2
  iintro ⟨Hb, Hheld⟩
  ihave Hh := (Entails.of_eq (held_after (F := F) m d)) $$ Hheld
  icases Hh with ⟨Hv1, Hv2⟩
  rw [wp_ret]; imodintro; imodintro
  isplitl [HO HR]
  · iapply (Entails.of_eq hR1.symm)
    isplitl [HO]
    · iexists W'; isplitr; · ipureintro; exact below d W'
      rw [(K (F := F)).Otc_end d (le_refl 1)]; iexact HO
    iexact HR
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hv2
  isplitl [Hb] <;> iassumption

def fq (d : Dev nD) (s' : Phys nD τ sig (Elt F)) : Prop :=
  s'.mem.mem ((SparseCore.T d : Thread nD τ).loc main_arg0) = m ((SparseCore.T d : Thread nD τ).loc main_arg0) ∧ s'.mem.mem ((SparseCore.T d : Thread nD τ).loc main_arg1) = m ((SparseCore.T d : Thread nD τ).loc main_arg1) ∧ s'.mem.mem ((SparseCore.T d : Thread nD τ).loc main_arg2) = m ((SparseCore.T d : Thread nD τ).loc main_arg2) ∧ s'.mem.mem ((SparseCore.T d : Thread nD τ).loc main_arg3) = m ((SparseCore.T d : Thread nD τ).loc main_arg3) ∧ s'.mem.mem ((SparseCore.T d : Thread nD τ).loc main_arg4) = m ((SparseCore.T d : Thread nD τ).loc main_arg4) ∧ s'.mem.mem ((SparseCore.T d : Thread nD τ).loc main_arg5) = m ((SparseCore.T d : Thread nD τ).loc main_arg5) ∧ s'.mem.mem ((SparseCore.T d : Thread nD τ).loc main_arg6) = m ((SparseCore.T d : Thread nD τ).loc main_arg6) ∧ s'.mem.mem ((SparseCore.T d : Thread nD τ).loc main_v2) = out m d

omit [FloatOps F] in
/-- A buffer held whole against the machine's state: the memory holds its contents. -/
theorem agree (d : Dev nD) (b : Ref sig .tc) (f : Buf (Elt F) ((SparseCore.T d : Thread nD τ).loc b)) (s' : Phys nD τ sig (Elt F)) :
    iprop(SI s' ∗ pl d b f) ⊢ iprop(⌜s'.mem.mem ((SparseCore.T d : Thread nD τ).loc b) = f⌝ ∗ (SI s' ∗ pl d b f : sProp 𝕄)) := by
  refine (persistent_entails_right (SI_pointsTo_agree (st := s') (ℓ := (SparseCore.T d : Thread nD τ).loc b) (I := Finset.univ) (q := fullShare) (f := f))).trans ?_
  iintro ⟨%h, H⟩
  isplitr; · ipureintro; exact funext fun i => h i (Finset.mem_univ i)
  iexact H

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6, H7⟩, HSI⟩
  ihave H := (agree d _ _ s') $$ [HSI H0]
  · isplitl [HSI] <;> iassumption
  icases H with ⟨%h0, HSI, -⟩
  ihave H := (agree d _ _ s') $$ [HSI H1]
  · isplitl [HSI] <;> iassumption
  icases H with ⟨%h1, HSI, -⟩
  ihave H := (agree d _ _ s') $$ [HSI H2]
  · isplitl [HSI] <;> iassumption
  icases H with ⟨%h2, HSI, -⟩
  ihave H := (agree d _ _ s') $$ [HSI H3]
  · isplitl [HSI] <;> iassumption
  icases H with ⟨%h3, HSI, -⟩
  ihave H := (agree d _ _ s') $$ [HSI H4]
  · isplitl [HSI] <;> iassumption
  icases H with ⟨%h4, HSI, -⟩
  ihave H := (agree d _ _ s') $$ [HSI H5]
  · isplitl [HSI] <;> iassumption
  icases H with ⟨%h5, HSI, -⟩
  ihave H := (agree d _ _ s') $$ [HSI H6]
  · isplitl [HSI] <;> iassumption
  icases H with ⟨%h6, HSI, -⟩
  ihave H := (agree d _ _ s') $$ [HSI H7]
  · isplitl [HSI] <;> iassumption
  icases H with ⟨%h7, HSI, -⟩
  ipureintro; exact ⟨h0, h1, h2, h3, h4, h5, h6, h7⟩

/-! # The program's run -/

def QC : PUnit × MemSt nD τ sig (Elt F) → Prop := fun r =>
  (∀ d : Dev nD, r.2.mem ((SparseCore.T d : Thread nD τ).loc main_arg0) = m ((SparseCore.T d : Thread nD τ).loc main_arg0) ∧ r.2.mem ((SparseCore.T d : Thread nD τ).loc main_arg1) = m ((SparseCore.T d : Thread nD τ).loc main_arg1) ∧ r.2.mem ((SparseCore.T d : Thread nD τ).loc main_arg2) = m ((SparseCore.T d : Thread nD τ).loc main_arg2) ∧ r.2.mem ((SparseCore.T d : Thread nD τ).loc main_arg3) = m ((SparseCore.T d : Thread nD τ).loc main_arg3) ∧ r.2.mem ((SparseCore.T d : Thread nD τ).loc main_arg4) = m ((SparseCore.T d : Thread nD τ).loc main_arg4) ∧ r.2.mem ((SparseCore.T d : Thread nD τ).loc main_arg5) = m ((SparseCore.T d : Thread nD τ).loc main_arg5) ∧ r.2.mem ((SparseCore.T d : Thread nD τ).loc main_arg6) = m ((SparseCore.T d : Thread nD τ).loc main_arg6) ∧ r.2.mem ((SparseCore.T d : Thread nD τ).loc main_v2) = out m d) ∧ r.2.sem = fun _ => 0

/-- The program runs from any memory whose indices are in range: the arguments end unchanged, the result ends at its
    value, every semaphore counter reads zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.KernelIdeal.Gather

end
-- ==== Proof.Pre.lean ====
module
public import proofs.«01_k».proof.Defs
public import proofs.«01_k».proof.Proof.Gen.Pre_pre
public import Idealize.ShloMosaic.Lib.ReduceAll
public import Idealize.ShloMosaic.Lib.Affine
public import Idealize.ShloMosaic.Lib.Pointwise.Index

@[expose] public section

noncomputable section

namespace Cert.Pre_pre.Gather

open Cert.Pre_pre Idealize.ShloMosaic

variable {F : FTy → Type} [FloatOps F]

instance : Subsingleton S_.Idx := ⟨fun a b => funext fun k => k.elim0⟩

/-- The one index of a scalar. -/
def z0 : S_.Idx := fun k => k.elim0

/-- A word in a signed range from zero, as a natural number. -/
theorem nat_of_range (x n : BitVec 32) (hn : n.toNat < 2 ^ 31)
    (e : IntOp.andi (IntOp.cmpi .sge x 0#32) (IntOp.cmpi .slt x n) = 1#1) : x.toNat < n.toNat := by
  obtain ⟨h0, h1⟩ := IntOp.andi_eq_one.1 e
  rw [IntOp.cmpi_sge] at h0
  rw [IntOp.cmpi_slt] at h1
  have hx := x.isLt
  rw [show (0#32 : BitVec 32).toInt = 0 from rfl, BitVec.toInt_eq_toNat_cond x] at h0
  rw [BitVec.toInt_eq_toNat_cond x, BitVec.toInt_eq_toNat_cond n] at h1
  split_ifs at h0 h1 <;> omega

variable (a0 a1 : IVec S4x2048 32) (a2 : FVec F S100000x128 .f32) (a3 : FVec F S2x128 .f32) (a4 : FVec F S768x128 .f32) (a5 a6 : FVec F S768 .f32)

/-- What the precondition says: the ids and the token types are in range, and the first row of the segment table compares below infinity. -/
theorem parts (h : fn (F := F) a0 a1 a2 a3 a4 a5 a6 = fun _ => 1#1) :
    (∀ j, (a0 j).toNat < 100000) ∧ (∀ j, (a1 j).toNat < 2)
      ∧ ∀ k : Fin 128, FloatOps.cmpf .olt (Host.absf (fun _ : S_.Idx => a3 (ix2 0 k)) z0) (Scalar.ofBits .f32 0x7F800000#32 : F .f32) = 1#1 := by
  have e := congrFun h z0
  dsimp only [fn, fn_part1] at e
  obtain ⟨e, e3⟩ := IntOp.andi_eq_one.1 e
  obtain ⟨e1, e2⟩ := IntOp.andi_eq_one.1 e
  refine ⟨fun j => ?_, fun j => ?_, fun k => ?_⟩
  · exact nat_of_range (a0 j) 100000#32 (by decide) (Host.reduce_andi_all _ _ _ _ _ e1 j)
  · exact nat_of_range (a1 j) 2#32 (by decide) (Host.reduce_andi_all _ _ _ _ _ e2 j)
  · have e4 := Host.reduce_andi_all _ _ _ _ _ e3 (ix1 k)
    have hk : (fun j => extractStridedSlice S1x128 ![0, 0] a3 Facts.slices_S2x128_S1x128_0_0 (Shape.reshapeEquiv Facts.shapeCasts_S1x128_S128 j)) (ix1 k) = a3 (ix2 0 k) := by
      show a3 _ = a3 _
      have r : Shape.reshapeEquiv Facts.shapeCasts_S1x128_S128 (ix1 k) = (ix2 0 k : S1x128.Idx) := by
        apply Shape.reshapeEquiv_eq_of_rowMajor
        rw [Shape.rowMajor_val_two, Shape.rowMajor_val_one]
        simp [ix1, ix2]
      rw [r]
      refine congrArg a3 (funext fun a => Fin.ext ?_)
      match a with
      | ⟨0, _⟩ => rfl
      | ⟨1, _⟩ => exact Nat.zero_add _
    rw [← hk]
    exact e4

end Cert.Pre_pre.Gather

namespace Cert.Pre_ids_in_range.Gather

open Cert.Pre_ids_in_range Idealize.ShloMosaic

variable {F : FTy → Type} [FloatOps F]

/-- The shape relations that the weaker precondition states. -/
instance facts : Cert.Pre_ids_in_range.Facts where
  bcast_S_S4x2048 := by decide
  reducesTo_S4x2048_S_d0_1 := by decide
  h_S_ := by decide

instance : Subsingleton S_.Idx := ⟨fun a b => funext fun k => k.elim0⟩

/-- What the weaker precondition says: the ids are in range. -/
theorem ids_lt (a0 a1 : IVec S4x2048 32) (a2 : FVec F S100000x128 .f32) (a3 : FVec F S2x128 .f32) (a4 : FVec F S768x128 .f32) (a5 a6 : FVec F S768 .f32)
    (h : fn (F := F) a0 a1 a2 a3 a4 a5 a6 = fun _ => 1#1) (j) : (a0 j).toNat < 100000 := by
  have e := congrFun h Cert.Pre_pre.Gather.z0
  dsimp only [fn] at e
  exact Cert.Pre_pre.Gather.nat_of_range (a0 j) 100000#32 (by decide) (Host.reduce_andi_all _ _ _ _ _ e j)

end Cert.Pre_ids_in_range.Gather

end
-- ==== Proof.Frames.lean ====
module
public import proofs.«01_k».proof.Proof.Run
public import proofs.«01_k».proof.Proof.Pre
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- The ids are in range of the token table, read from the value claim's precondition. -/
theorem ok_ideal (m) (h : Cert.Pre_KernelIdeal_pre m) : Cert.KernelIdeal.Gather.PreOK m :=
  fun d j => (Cert.Pre_pre.Gather.parts _ _ _ _ _ _ _ (h d)).1 j

section
variable {F : FTy → Type} [FloatOps F]

/-- The bodies of the kernel's two prints are one table. -/
theorem bodies_eq : Cert.Kernel.defs₀ (F := F) = Cert.KernelIdeal.defs₀ (F := F) := by
  funext k l a
  match k, l, a with
  | .scVector c s, 0, _ => rfl
  | .scVector c s, 1, _ => rfl
  | .tc, 0, _ => rfl
  | .tc, 1, (t, s) => rfl
  | .scScalar c, 0, _ => rfl
  | .scScalar c, 1, _ => rfl

/-- So are the whole tables. -/
theorem tables_eq : Cert.Kernel.defs (F := F) = Cert.KernelIdeal.defs (F := F) :=
  congrArg (fun D => Cert.KernelIdeal.sc.defs (Pipeline.defs Cert.KernelIdeal.pcfgs D)) bodies_eq

end

/-- The kernel at float words: every run ends, the arguments are unchanged and every counter is back at zero. -/
theorem frame_kernel : Cert.quiescent_Kernel := by
  intro m ρ hpre
  rw [tables_eq]
  exact (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.KernelIdeal.Gather.run_main (F := Bits) m ρ fun d => Cert.Pre_ids_in_range.Gather.ids_lt _ _ _ _ _ _ _ (hpre d))

/-- The kernel over the extended reals: every run ends, the arguments are unchanged and every counter is back at zero. -/
theorem frame_kernelIdeal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.KernelIdeal.Gather.run_main (F := Ideal) m ρ fun d => Cert.Pre_ids_in_range.Gather.ids_lt _ _ _ _ _ _ _ (hpre d))

/-- The same under the value claim's precondition. -/
theorem frame_kernelIdeal_pre : Cert.quiescent_KernelIdeal_pre_pre := fun m ρ hpre =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.KernelIdeal.Gather.run_main (F := Ideal) m ρ (ok_ideal m hpre))

/-- The reference declares no semaphore: its run ends with the arguments unchanged and nothing counted. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the value claim's precondition. -/
theorem frame_reference_pre : Cert.quiescent_ReferenceIdeal_pre_pre := fun m ρ _ => frame_reference m ρ trivial

end Cert.Proof

end
-- ==== Proof.Value.lean ====
module
public import proofs.«01_k».proof.Proof.Frames
public import Idealize.ShloMosaic.Lib.Pointwise
public import Idealize.ShloMosaic.Lib.ValueIdx
public import Idealize.ShloMosaic.Lib.IdealHost

@[expose] public section

noncomputable section

namespace Cert.Value

open Idealize.ShloMosaic

/-- A row times the weight matrix, plus the bias. -/
def lin (x : Fin 128 → EReal) (W : (⟨2, ![768, 128]⟩ : Shape).Idx → EReal) (b : (⟨1, ![768]⟩ : Shape).Idx → EReal) (h : Fin 768) : EReal :=
  (∑ k : Fin 128, x k * W (ix2 h k)) + b (ix1 h)

/-- The root mean square normalization of a row, times the gain. -/
def nrm (y : Fin 768 → EReal) (w : (⟨1, ![768]⟩ : Shape).Idx → EReal) (h : Fin 768) : EReal :=
  y h * Ideal.rsqrt (Ideal.div (∑ k, y k * y k) (Ideal.ofBits .f32 0x44400000#32) + Ideal.ofBits .f32 0x358637BD#32) * w (ix1 h)

section Kernel
open Cert.KernelIdeal Cert.KernelIdeal.Gen Cert.KernelIdeal.Gather

theorem pay_apply (s0 dd : Vec Ideal S1x128 .f32) (t : Vec Ideal S1x1024 .i32) (g : Vec Ideal S1x1024x128 .f32) (W : Vec Ideal S768x128 .f32)
    (b w : Vec Ideal S768 .f32) (i : Fin 1024) (h : Fin 768) :
    k1_pay2 s0 dd t g W b w (ix3 0 i h)
      = nrm (lin (fun k => (g (ix3 0 i k) + s0 (ix2 0 k)) + ((t (ix2 0 i)).toInt : ℝ) * dd (ix2 0 k)) W b) w h := by
  unfold k1_pay2
  simp only [pointwise]
  simp only [Nat.reduceEqDiff, dite_true, dite_false, reduceDIte, zero_add]
  rfl

/-- With the token type `0` or `1` and a finite first segment row, the kernel's combination is the selected row. -/
theorem comb (x s0 s1 : EReal) (t : BitVec 32) (ht : t.toNat < 2) (h1 : s0 ≠ ⊤) (h2 : s0 ≠ ⊥) :
    (x + s0) + ((t.toInt : ℝ) : EReal) * (s1 - s0) = x + if t.toNat = 0 then s0 else s1 := by
  have hi : t.toInt = (t.toNat : ℤ) := by
    rw [BitVec.toInt_eq_toNat_cond, if_pos (by omega)]
  rw [hi]
  rcases (by omega : t.toNat = 0 ∨ t.toNat = 1) with h | h
  · rw [h]; simp
  · rw [h]
    lift s0 to ℝ using ⟨h1, h2⟩
    simp only [Nat.cast_one, Int.cast_one, EReal.coe_one, one_mul, if_neg one_ne_zero, sub_eq_add_neg]
    rw [add_assoc, add_comm s1, ← add_assoc (s0 : EReal), ← EReal.coe_neg, ← EReal.coe_add, add_neg_cancel, EReal.coe_zero, zero_add]

variable (m : (ℓ : Loc nD τ sig) → Buf (Elt Idealize.ShloMosaic.Ideal) ℓ) (d : Dev nD)

/-- The sum of the token's row and the segment's row. -/
def emb (ids tt : S4x2048.Idx → BitVec 32) (tbl : S100000x128.Idx → EReal) (seg : S2x128.Idx → EReal) (b : Fin 4) (s : Fin 2048) (k : Fin 128) : EReal :=
  tbl (ix2 ⟨(ids (ix2 b s)).toNat % 100000, Nat.mod_lt _ (by decide)⟩ k) + if (tt (ix2 b s)).toNat = 0 then seg (ix2 0 k) else seg (ix2 1 k)

/-- A row of a block of the gathered array is the table's row that its id names. -/
theorem rows_at (ids : S4x2048.Idx → BitVec 32) (tbl : S100000x128.Idx → EReal) (b : Fin 4) (s : Fin 2048) (k : Fin 128) (p q) :
    rows8 (gat tbl ids) ⟨(b.val * 2048 + s.val) / 1024, p⟩ (ix3 0 ⟨(b.val * 2048 + s.val) % 1024, q⟩ k)
      = tbl (ix2 ⟨(ids (ix2 b s)).toNat % 100000, Nat.mod_lt _ (by decide)⟩ k) := by
  have hb := b.isLt
  have hs' := s.isLt
  have e := Nat.div_add_mod (b.val * 2048 + s.val) 1024
  unfold rows8 gat
  refine congrArg tbl (funext fun a => ?_)
  match a with
  | ⟨1, _⟩ => rfl
  | ⟨0, _⟩ =>
    refine Fin.ext (congrArg (fun w : BitVec 32 => w.toNat % 100000) (congrArg ids (funext fun a => ?_)))
    match a with
    | ⟨0, _⟩ =>
      refine Fin.ext ?_
      show (1024 * ((b.val * 2048 + s.val) / 1024) + (b.val * 2048 + s.val) % 1024) / 2048 = b.val
      omega
    | ⟨1, _⟩ =>
      refine Fin.ext ?_
      show (1024 * ((b.val * 2048 + s.val) / 1024) + (b.val * 2048 + s.val) % 1024) % 2048 = s.val
      omega

/-- The token type beside that row. -/
theorem type_at (x0 : S4x2048.Idx → BitVec 32) (b : Fin 4) (s : Fin 2048) (p q) :
    ttRow x0 ⟨(b.val * 2048 + s.val) / 1024, p⟩ (ix2 0 ⟨(b.val * 2048 + s.val) % 1024, q⟩) = x0 (ix2 b s) := by
  have hb := b.isLt
  have hs' := s.isLt
  unfold ttRow
  refine congrArg x0 (congrArg₂ ix2 (Fin.ext ?_) (Fin.ext ?_))
  · show (b.val * 2048 + s.val) / 1024 / 2 = b.val; omega
  · show 1024 * ((b.val * 2048 + s.val) / 1024 % 2) + (b.val * 2048 + s.val) % 1024 = s.val; omega

/-- The difference of the segment rows at an index. -/
theorem diff_at (x1 : S2x128.Idx → EReal) (k : Fin 128) :
    k1_pay1 (F := Idealize.ShloMosaic.Ideal) (segRow x1 0) (segRow x1 1) (ix2 0 k) = x1 (ix2 1 k) - x1 (ix2 0 k) := rfl

/-- A segment row at an index. -/
theorem seg_at (x1 : S2x128.Idx → EReal) (k : Fin 128) : segRow x1 0 (ix2 0 k) = x1 (ix2 0 k) := rfl

/-- The TensorCore call's result at an index. -/
theorem outF_apply (x0 : S4x2048.Idx → BitVec 32) (x1 : S2x128.Idx → EReal) (x2 : S768x128.Idx → EReal) (x3 x4 : S768.Idx → EReal)
    (ids : S4x2048.Idx → BitVec 32) (tbl : S100000x128.Idx → EReal)
    (ht : ∀ j, (x0 j).toNat < 2) (hs : ∀ k : Fin 128, x1 (ix2 0 k) ≠ ⊤ ∧ x1 (ix2 0 k) ≠ ⊥)
    (b : Fin 4) (s : Fin 2048) (h : Fin 768) (hr : b.val * 2048 + s.val < 8192) :
    outF (F := Idealize.ShloMosaic.Ideal) x0 x1 x2 x3 x4 (gat tbl ids) (ix2 ⟨b.val * 2048 + s.val, hr⟩ h)
      = nrm (lin (emb ids x0 tbl x1 b s) x2 x3) x4 h := by
  have hk : (b.val * 2048 + s.val) / 1024 < 8 := by omega
  have hq : (b.val * 2048 + s.val) % 1024 < 1024 := Nat.mod_lt _ (by decide)
  have e : outF (F := Idealize.ShloMosaic.Ideal) x0 x1 x2 x3 x4 (gat tbl ids) (ix2 ⟨b.val * 2048 + s.val, hr⟩ h)
      = blkOut (F := Idealize.ShloMosaic.Ideal) x0 x1 x2 x3 x4 (gat tbl ids) ⟨(b.val * 2048 + s.val) / 1024, hk⟩ (ix3 0 ⟨(b.val * 2048 + s.val) % 1024, hq⟩ h) := rfl
  rw [e]
  unfold blkOut
  rw [pay_apply]
  congr 1
  congr 1
  funext k
  rw [rows_at, type_at, diff_at, seg_at, comb _ _ _ _ (ht _) (hs k).1 (hs k).2]
  rfl

/-- The kernel's result at an index. -/
theorem out_apply (ht : ∀ j, (m (d.tc.loc main_arg1) j).toNat < 2)
    (hs : ∀ k : Fin 128, m (d.tc.loc main_arg3) (ix2 0 k) ≠ (⊤ : EReal) ∧ m (d.tc.loc main_arg3) (ix2 0 k) ≠ (⊥ : EReal))
    (b : Fin 4) (s : Fin 2048) (h : Fin 768) :
    out m d (ix3 b s h) = nrm (lin (emb (m (d.tc.loc main_arg0)) (m (d.tc.loc main_arg1)) (m (d.tc.loc main_arg2)) (m (d.tc.loc main_arg3)) b s)
      (m (d.tc.loc main_arg4)) (m (d.tc.loc main_arg5))) (m (d.tc.loc main_arg6)) h := by
  have hb := b.isLt
  have hs' := s.isLt
  have r : Shape.reshapeEquiv shapeCasts_S8192x768_S4x2048x768 (ix3 b s h) = (ix2 ⟨b.val * 2048 + s.val, by omega⟩ h : S8192x768.Idx) := by
    apply Shape.reshapeEquiv_eq_of_rowMajor
    rw [Shape.rowMajor_val_two, Shape.rowMajor_val_three]
    simp [ix2, ix3]
  show res m d (Shape.reshapeEquiv shapeCasts_S8192x768_S4x2048x768 (ix3 b s h)) = _
  rw [r]
  exact outF_apply _ _ _ _ _ _ _ ht hs b s h _

end Kernel

end Cert.Value

end
-- ==== Proof.RefVal.lean ====
module
public import proofs.«01_k».proof.Proof.Value
public import Idealize.ShloMosaic.Lib.ReduceAll

@[expose] public section

noncomputable section

namespace Cert.Value

open Idealize.ShloMosaic Cert.ReferenceIdeal Cert.ReferenceIdeal.Gen

section Take
variable {α : Type} {N : Nat}

/-- The dimension numbers of a gather of whole rows of 128 by a rectangle of row numbers. -/
abbrev rowDims (N : Nat) (wf : GatherDims.WF ⟨2, ![N, 128]⟩ S4x2048x1 S4x2048x128 [2] [0] [] [0] [] 2 ![1, 128]) :
    GatherDims ⟨2, ![N, 128]⟩ S4x2048x1 S4x2048x128 where
  offsetDims := [2]
  collapsedSliceDims := [0]
  operandBatchingDims := []
  startIndicesBatchingDims := []
  startIndexMap := [0]
  indexVectorDim := 2
  sliceSizes := ![1, 128]
  wf := wf

/-- The gather at an index: the row that the row number names. -/
theorem gather_rows (wf) (x : (⟨2, ![N, 128]⟩ : Shape).Idx → α) (idx : IVec S4x2048x1 32) (b : Fin 4) (s : Fin 2048) (k : Fin 128)
    (n : Fin N) (hn : (idx (ix3 b s 0)).toInt = (n.val : ℤ)) :
    Host.gather (rowDims N wf) x idx (ix3 b s k) = x (ix2 n k) := by
  have hN := n.isLt
  unfold Host.gather
  refine congrArg x (funext fun a => Fin.ext ?_)
  match a with
  | ⟨0, _⟩ =>
    show (rowDims N wf).start (ix3 b s k) idx 0 + (rowDims N wf).batchCoord (ix3 b s k) 0 + (rowDims N wf).offCoord (ix3 b s k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b s k) ⟨List.idxOf (0 : Fin 2) (rowDims N wf).startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi, hn]
    show min ((n.val : ℤ)).toNat (N - 1) = n.val
    omega
  | ⟨1, _⟩ =>
    show (rowDims N wf).start (ix3 b s k) idx 1 + (rowDims N wf).batchCoord (ix3 b s k) 1 + (rowDims N wf).offCoord (ix3 b s k) 1 = k.val
    rw [GatherDims.batchCoord_eq_zero _ _ _ List.not_mem_nil]
    unfold GatherDims.start
    rw [dif_neg (show (1 : Fin 2) ∉ (rowDims N wf).startIndexMap from by simp)]
    simp only [Nat.zero_add, Nat.add_zero]
    rfl

/-- The row numbers as the gather takes them: a negative one counts from the end. -/
def wrap (n : BitVec 32) (ids : IVec S4x2048 32) : IVec S4x2048x1 32 :=
  broadcastInDim S4x2048x1 ![0, 1] bcast_S4x2048_S4x2048x1_0_1 (select (cmpi .slt ids (broadcastInDim S4x2048 ![] bcast_S_S4x2048 (constantI S_ 32 0#32))) (addi ids (broadcastInDim S4x2048 ![] bcast_S_S4x2048 (constantI S_ 32 n))) ids)

/-- Which row numbers are in range. -/
def inRange (n l : BitVec 32) (ids : IVec S4x2048 32) : IVec S4x2048 1 :=
  Host.reduce IntOp.andi (andi (cmpi .sge (wrap n ids) (broadcastInDim S4x2048x1 ![] bcast_S_S4x2048x1 (constantI S_ 32 0#32))) (cmpi .sle (wrap n ids) (broadcastInDim S4x2048x1 ![0, 1, 2] bcast_S1x1x1_S4x2048x1_0_1_2 (broadcastInDim S1x1x1 ![2] bcast_S1_S1x1x1_2 (constantI S1 32 l))))) (constantI S_ 1 1#1) reducesTo_S4x2048x1_S4x2048_d2 h_S_

/-- Rows taken from a table, with a fill where the row number is out of range. -/
def take (n l : BitVec 32) (d : GatherDims ⟨2, ![N, 128]⟩ S4x2048x1 S4x2048x128) (tbl : FVec Ideal ⟨2, ![N, 128]⟩ .f32) (ids : IVec S4x2048 32) : FVec Ideal S4x2048x128 .f32 :=
  select (broadcastInDim S4x2048x128 ![0, 1] bcast_S4x2048_S4x2048x128_0_1 (inRange n l ids)) (Host.gather d tbl (wrap n ids)) (broadcastInDim S4x2048x128 ![] bcast_S_S4x2048x128 (constant S_ .f32 0x7FC00000#32))

/-- A row number in range is kept. -/
theorem wrap_apply (n : BitVec 32) (ids : IVec S4x2048 32) (h : ∀ j, (ids j).toNat < 2 ^ 31) (i : S4x2048x1.Idx) :
    wrap n ids i = ids (ix2 (i 0) (i 1)) := by
  have hj := h (ix2 (i 0) (i 1))
  have e : IntOp.cmpi .slt (ids (ix2 (i 0) (i 1))) 0#32 = 0#1 := by
    refine ValueIdx.eq_zero_of_ne_one fun e => ?_
    rw [IntOp.cmpi_slt, BitVec.toInt_eq_toNat_cond, if_pos (by omega), show (0#32 : BitVec 32).toInt = 0 from rfl] at e
    omega
  have r : wrap n ids i = Scalar.select (IntOp.cmpi .slt (ids (ix2 (i 0) (i 1))) 0#32) (IntOp.addi (ids (ix2 (i 0) (i 1))) n) (ids (ix2 (i 0) (i 1))) := by
    unfold wrap
    simp only [pointwise]
    simp only [Nat.reduceEqDiff, dite_false, reduceDIte]
    rfl
  rw [r, e]
  rfl

/-- Rows taken at row numbers in range are the table's rows. -/
theorem take_apply (n l : BitVec 32) (wf) (tbl : FVec Ideal ⟨2, ![N, 128]⟩ .f32) (ids : IVec S4x2048 32)
    (hl : l.toNat + 1 = N) (hN : N ≤ 2 ^ 31) (h : ∀ j, (ids j).toNat < N) (b : Fin 4) (s : Fin 2048) (k : Fin 128) :
    take n l (rowDims N wf) tbl ids (ix3 b s k) = tbl (ix2 ⟨(ids (ix2 b s)).toNat, h _⟩ k) := by
  have h31 : ∀ j, (ids j).toNat < 2 ^ 31 := fun j => lt_of_lt_of_le (h j) hN
  have ti : ∀ j, (ids j).toInt = ((ids j).toNat : ℤ) := fun j => by
    have := h31 j
    rw [BitVec.toInt_eq_toNat_cond, if_pos (by omega)]
  have e : ∀ j, inRange n l ids j = 1#1 := by
    intro j
    unfold inRange
    refine Host.reduce_andi_one _ _ _ _ _ rfl fun i => ?_
    refine IntOp.andi_eq_one.2 ⟨?_, ?_⟩
    · show IntOp.cmpi .sge (wrap n ids i) 0#32 = 1#1
      rw [IntOp.cmpi_sge, wrap_apply n ids h31, ti]
      exact Int.natCast_nonneg _
    · show IntOp.cmpi .sle (wrap n ids i) l = 1#1
      have hj := h (ix2 (i 0) (i 1))
      rw [IntOp.cmpi_sle, wrap_apply n ids h31, ti, BitVec.toInt_eq_toNat_cond, if_pos (by omega)]
      omega
  have r : take n l (rowDims N wf) tbl ids (ix3 b s k)
      = Scalar.select (inRange n l ids (ix2 b s)) (Host.gather (rowDims N wf) tbl (wrap n ids) (ix3 b s k)) (Ideal.ofBits .f32 0x7FC00000#32) := by
    unfold take
    simp only [pointwise]
    simp only [Nat.reduceEqDiff, dite_false, reduceDIte]
  rw [r, e]
  refine gather_rows wf tbl _ b s k ⟨_, h _⟩ ?_
  rw [wrap_apply n ids h31, ti]
  rfl

end Take

/-- The reference before its normalization. -/
def hid (ids tt : IVec S4x2048 32) (tbl : FVec Ideal S100000x128 .f32) (seg : FVec Ideal S2x128 .f32) (W : FVec Ideal S768x128 .f32) (b : FVec Ideal S768 .f32) :
    FVec Ideal S4x2048x768 .f32 :=
  addf (Host.dotGeneral dot_S4x2048x128_S768x128_S4x2048x768_2_1_01_0_n_n none (addf (take 100000#32 99999#32 gather_S100000x128_S4x2048x1_S4x2048x128_2_0_n_n_0_2_1128 tbl ids) (take 2#32 1#32 gather_S2x128_S4x2048x1_S4x2048x128_2_0_n_n_0_2_1128 seg tt)) W) (broadcastInDim S4x2048x768 ![0, 1, 2] bcast_S1x1x768_S4x2048x768_0_1_2 (broadcastInDim S1x1x768 ![2] bcast_S768_S1x1x768_2 b))

/-- The reference's normalization. -/
def rms (y : FVec Ideal S4x2048x768 .f32) (w : FVec Ideal S768 .f32) : FVec Ideal S4x2048x768 .f32 :=
  mulf (mulf y (broadcastInDim S4x2048x768 ![0, 1, 2] bcast_S4x2048x1_S4x2048x768_0_1_2 (Host.rsqrt (addf (Host.divf (broadcastInDim S4x2048x1 ![0, 1] bcast_S4x2048_S4x2048x1_0_1 (Host.reduceAdd (mulf y y) (constant S_ .f32 0x00000000#32) reducesTo_S4x2048x768_S4x2048_d2 h_S_)) (broadcastInDim S4x2048x1 ![] bcast_S_S4x2048x1 (constant S_ .f32 0x44400000#32))) (broadcastInDim S4x2048x1 ![] bcast_S_S4x2048x1 (constant S_ .f32 0x358637BD#32)))))) (broadcastInDim S4x2048x768 ![0, 1, 2] bcast_S1x1x768_S4x2048x768_0_1_2 (broadcastInDim S1x1x768 ![2] bcast_S768_S1x1x768_2 w))

/-- What the reference's run leaves, by its two parts. -/
theorem res_eq (m : (ℓ : Loc nD τ sig) → Buf (Elt Ideal) ℓ) (c : Dev nD) :
    Cert.ReferenceIdeal.Value.res_main_v19 m c = rms (hid (m (c.tc.loc main_arg0)) (m (c.tc.loc main_arg1)) (m (c.tc.loc main_arg2)) (m (c.tc.loc main_arg3))
      (m (c.tc.loc main_arg4)) (m (c.tc.loc main_arg5))) (m (c.tc.loc main_arg6)) := rfl

/-- The normalization at an index. -/
theorem rms_apply (y : FVec Ideal S4x2048x768 .f32) (w : FVec Ideal S768 .f32) (b : Fin 4) (s : Fin 2048) (h : Fin 768) :
    rms y w (ix3 b s h) = nrm (fun k => y (ix3 b s k)) w h := by
  unfold rms
  simp only [pointwise]
  simp only [Nat.reduceEqDiff, dite_true, dite_false, reduceDIte, zero_add]
  rfl

/-- The rows before the normalization, at an index. -/
theorem hid_apply (ids tt : IVec S4x2048 32) (tbl : FVec Ideal S100000x128 .f32) (seg : FVec Ideal S2x128 .f32) (W : FVec Ideal S768x128 .f32) (bias : FVec Ideal S768 .f32)
    (hi : ∀ j, (ids j).toNat < 100000) (ht : ∀ j, (tt j).toNat < 2) (b : Fin 4) (s : Fin 2048) (h : Fin 768) :
    hid ids tt tbl seg W bias (ix3 b s h) = lin (emb ids tt tbl seg b s) W bias h := by
  have e1 : ∀ k, take 100000#32 99999#32 gather_S100000x128_S4x2048x1_S4x2048x128_2_0_n_n_0_2_1128 tbl ids (ix3 b s k) = tbl (ix2 ⟨(ids (ix2 b s)).toNat, hi _⟩ k) :=
    take_apply _ _ _ tbl ids rfl (by norm_num) hi b s
  have e2 : ∀ k, take 2#32 1#32 gather_S2x128_S4x2048x1_S4x2048x128_2_0_n_n_0_2_1128 seg tt (ix3 b s k) = seg (ix2 ⟨(tt (ix2 b s)).toNat, ht _⟩ k) :=
    take_apply _ _ _ seg tt rfl (by norm_num) ht b s
  unfold hid
  simp only [pointwise]
  simp only [Nat.reduceEqDiff, dite_true, dite_false, reduceDIte, zero_add, e1, e2]
  unfold lin
  refine congrArg₂ (fun u v => u + v) (Finset.sum_congr rfl fun k _ => congrArg (fun u => u * W (ix2 h k)) ?_) rfl
  unfold emb
  refine congrArg₂ (fun u v : EReal => u + v) (congrArg tbl (congrArg₂ ix2 (Fin.ext (Nat.mod_eq_of_lt (hi _)).symm) rfl)) ?_
  have := ht (ix2 b s)
  rcases (by omega : (tt (ix2 b s)).toNat = 0 ∨ (tt (ix2 b s)).toNat = 1) with h0 | h0
  · rw [if_pos h0]; exact congrArg seg (congrArg₂ ix2 (Fin.ext h0) rfl)
  · rw [if_neg (by omega)]; exact congrArg seg (congrArg₂ ix2 (Fin.ext h0) rfl)

/-- The reference's result at an index. -/
theorem res_apply (m : (ℓ : Loc nD τ sig) → Buf (Elt Ideal) ℓ) (c : Dev nD)
    (hi : ∀ j, (m (c.tc.loc main_arg0) j).toNat < 100000) (ht : ∀ j, (m (c.tc.loc main_arg1) j).toNat < 2)
    (b : Fin 4) (s : Fin 2048) (h : Fin 768) :
    Cert.ReferenceIdeal.Value.res_main_v19 m c (ix3 b s h)
      = nrm (lin (emb (m (c.tc.loc main_arg0)) (m (c.tc.loc main_arg1)) (m (c.tc.loc main_arg2)) (m (c.tc.loc main_arg3)) b s)
          (m (c.tc.loc main_arg4)) (m (c.tc.loc main_arg5))) (m (c.tc.loc main_arg6)) h := by
  rw [res_eq, rms_apply]
  refine congrArg (fun f => nrm f (m (c.tc.loc main_arg6)) h) (funext fun k => ?_)
  exact hid_apply _ _ _ _ _ _ hi ht b s k

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pre
public import proofs.«01_k».proof.Proof.Frames
public import proofs.«01_k».proof.Proof.Value
public import proofs.«01_k».proof.Proof.RefVal
public import Idealize.ShloMosaic.Adequacy
public import Idealize.ShloMosaic.Init

@[expose] public section

noncomputable section

namespace Cert.Proof

open Idealize.ShloMosaic Idealize.SL.Sem

/-- A value whose magnitude compares below infinity is finite. -/
theorem finite_of_below (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  have h' : max x (-x) < ⊤ := by
    by_contra hn
    simp [Ideal.cmp, hn] at h
  constructor
  · rintro rfl; simp at h'
  · rintro rfl; simp at h'

/-- The value claim: over the extended reals the kernel's result is the reference's, element by element, and both runs leave their
    arguments as they were. -/
theorem algebraic : Cert.algebraic_KernelIdeal_ReferenceIdeal_pre_pre := by
  intro m ρ m' ρ' hpre hagree
  have hp := fun c => Cert.Pre_pre.Gather.parts _ _ _ _ _ _ _ (hpre c)
  refine ⟨fun c => Cert.KernelIdeal.Gather.out m c, ?_, ?_⟩
  · exact (θ_run Cert.KernelIdeal.defs _ _).mono
      (fun _ h c => ⟨(h.1 c).2.2.2.2.2.2.2, (h.1 c).1, (h.1 c).2.1, (h.1 c).2.2.1, (h.1 c).2.2.2.1, (h.1 c).2.2.2.2.1, (h.1 c).2.2.2.2.2.1, (h.1 c).2.2.2.2.2.2.1⟩)
      (Cert.KernelIdeal.Gather.run_main (F := Ideal) m ρ (ok_ideal m hpre))
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    funext i
    obtain ⟨b, s, k, rfl⟩ : ∃ b s k, i = ix3 b s k := ⟨i 0, i 1, i 2, by funext a; match a with | ⟨0, _⟩ => rfl | ⟨1, _⟩ => rfl | ⟨2, _⟩ => rfl⟩
    refine (Cert.Value.res_apply m' c (fun j => ?_) (fun j => ?_) b s k).trans
      (Eq.trans ?_ (Cert.Value.out_apply m c (hp c).2.1 (fun k => finite_of_below _ ((hp c).2.2 k)) b s k).symm)
    · rw [e0]; exact (hp c).1 j
    · rw [e1]; exact (hp c).2.1 j
    · rw [e0, e1, e2, e3, e4, e5, e6]

/-- `Cert.Claim` (Defs.lean). -/
theorem claim : Cert.Claim :=
  ⟨Cert.Kernel.Gen.facts, Cert.KernelIdeal.Gen.facts, Cert.ReferenceIdeal.Gen.facts, Cert.Pre_ids_in_range.Gather.facts, Cert.Pre_pre.Gen.facts,
    frame_kernel, frame_kernelIdeal, frame_kernelIdeal_pre, frame_reference, frame_reference_pre, trivial, algebraic⟩

end Cert.Proof

end
